-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![768, 384]⟩ ⟨2, ![1536, 768]⟩ (Layout.meshBlock [2, 2] ![[0], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![384, 768]⟩ ⟨2, ![768, 768]⟩ (Layout.meshBlock [2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![768, 768]⟩ ⟨2, ![1536, 768]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x384 : Shape := ⟨2, ![768, 384]⟩
abbrev S384x768 : Shape := ⟨2, ![384, 768]⟩
abbrev S768x768 : Shape := ⟨2, ![768, 768]⟩
abbrev S6x128x768 : Shape := ⟨3, ![6, 128, 768]⟩
abbrev S6 : Shape := ⟨1, ![6]⟩
abbrev S_ : Shape := ⟨0, ![]⟩
abbrev S128x384 : Shape := ⟨2, ![128, 384]⟩
abbrev S128x768 : Shape := ⟨2, ![128, 768]⟩
abbrev S1x128x768 : Shape := ⟨3, ![1, 128, 768]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S768x384, .f32⟩
  | .hbm, ⟨1, _⟩ => ⟨S384x768, .f32⟩
  | .hbm, ⟨2, _⟩ => ⟨S768x768, .f32⟩
  | .local _ .vmem, ⟨0, _⟩ => ⟨S768x384, .f32⟩
  | .local _ .vmem, ⟨1, _⟩ => ⟨S384x768, .f32⟩
  | .local _ .vmem, ⟨2, _⟩ => ⟨S768x768, .f32⟩
  | .local _ .vmem, ⟨3, _⟩ => ⟨S6x128x768, .bf16⟩
  | .local _ .vmem, ⟨4, _⟩ => ⟨S6x128x768, .bf16⟩
  | _, _ => ⟨S768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_18 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_17 : BitVec 32 := 2#32
  let v23 : BitVec 32 := Scalar.muli v2 c2_i32_17
  let v24 : BitVec 32 := Scalar.addi c0_i32_18 v23
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_19 : BitVec 32 := 1#32
  let v25 : BitVec 32 := Scalar.muli v6 c1_i32_19
  let v26 : BitVec 32 := Scalar.addi v24 v25
  v26.toNat
def k0_dev3 (d0 : Dev nD) : Nat :=
  let c0_i32_33 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_32 : BitVec 32 := 2#32
  let v43 : BitVec 32 := Scalar.muli v2 c2_i32_32
  let v44 : BitVec 32 := Scalar.addi c0_i32_33 v43
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_34 : BitVec 32 := 1#32
  let v45 : BitVec 32 := Scalar.muli v6 c1_i32_34
  let v46 : BitVec 32 := Scalar.addi v44 v45
  v46.toNat
def k0_dev4 (d0 : Dev nD) : Nat :=
  let c0_i32_48 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_47 : BitVec 32 := 2#32
  let v63 : BitVec 32 := Scalar.muli v2 c2_i32_47
  let v64 : BitVec 32 := Scalar.addi c0_i32_48 v63
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_49 : BitVec 32 := 1#32
  let v65 : BitVec 32 := Scalar.muli v6 c1_i32_49
  let v66 : BitVec 32 := Scalar.addi v64 v65
  v66.toNat
def k0_dev5 (d0 : Dev nD) : Nat :=
  let c0_i32_62 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_61 : BitVec 32 := 2#32
  let v83 : BitVec 32 := Scalar.muli v2 c2_i32_61
  let v84 : BitVec 32 := Scalar.addi c0_i32_62 v83
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_63 : BitVec 32 := 1#32
  let v85 : BitVec 32 := Scalar.muli v6 c1_i32_63
  let v86 : BitVec 32 := Scalar.addi v84 v85
  v86.toNat
def k0_dev6 (d0 : Dev nD) : Nat :=
  let c0_i32_76 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_75 : BitVec 32 := 2#32
  let v103 : BitVec 32 := Scalar.muli v2 c2_i32_75
  let v104 : BitVec 32 := Scalar.addi c0_i32_76 v103
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_77 : BitVec 32 := 1#32
  let v105 : BitVec 32 := Scalar.muli v6 c1_i32_77
  let v106 : BitVec 32 := Scalar.addi v104 v105
  v106.toNat
def k0_dev7 (d0 : Dev nD) : Nat :=
  let c0_i32_90 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_89 : BitVec 32 := 2#32
  let v123 : BitVec 32 := Scalar.muli v2 c2_i32_89
  let v124 : BitVec 32 := Scalar.addi c0_i32_90 v123
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_91 : BitVec 32 := 1#32
  let v125 : BitVec 32 := Scalar.muli v6 c1_i32_91
  let v126 : BitVec 32 := Scalar.addi v124 v125
  v126.toNat
abbrev stage0_0 : Fin 1 → Memref sig .tc .vmem S768x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x768 : Shape := ⟨2, ![1536, 768]⟩
abbrev S768x768 : Shape := ⟨2, ![768, 768]⟩

abbrev nBuf : Space → Nat
  | .hbm => 3
  | .vmem => 0
  | .smem => 0
  | _ => 0

abbrev bufTy : (tb : Table) → Fin (tcTables nBuf tb) → BufTy
  | .hbm, ⟨0, _⟩ => ⟨S1536x768, .f32⟩
  | .hbm, ⟨1, _⟩ => ⟨S768x768, .f32⟩
  | .hbm, ⟨2, _⟩ => ⟨S1536x768, .f32⟩
  | _, _ => ⟨S1536x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Chunks.lean ====
module

public import proofs.«01_k».proof.Proof.Gen.KernelIdeal.Frame
public import proofs.«01_k».proof.Proof.Gen.KernelIdeal.Skeleton
public import Idealize.ShloMosaic.Lib.Ring
public import Idealize.ShloMosaic.Lib.Tactic

/-! # The six chunks

Both scratch buffers are six chunks of 128 rows; so is the result. This module names chunk `k` of each, the part of
the buffer it covers, and what the kernel leaves there. -/

@[expose] public section

noncomputable section

namespace Cert.Exchange

open Cert.KernelIdeal Cert.KernelIdeal.Gen
open Idealize.ShloMosaic Idealize.ShloMosaic.TcCoe
open Idealize.SL Idealize.SL.RA Idealize.SL.BI

variable {F : FTy → Type} [FloatOps F]

/-! ## The other device of the row -/

set_option backward.proofsInPublic true in
/-- The device that holds the other half of this device's row of blocks. -/
def peer (c : Dev nD) : Dev nD := ⟨2 * (c.val / 2) + (1 - c.val % 2), by have := c.isLt; simp only [nD] at *; omega⟩

/-- The other device's other device is this one. -/
theorem peer_peer (c : Dev nD) : peer (peer c) = c := by revert c; decide

/-- Swapping every device with the other one of its row. -/
def swapRow : Dev nD ≃ Dev nD := ⟨peer, peer, peer_peer, peer_peer⟩

/-! ## Rectangles -/

/-- Chunk `k` lies inside a scratch buffer. -/
theorem chunk_inb (k : Fin 6) : ∀ a, (![k.val, 0, 0] : Fin 3 → Nat) a + S1x128x768.size a ≤ S6x128x768.size a := by
  revert k; decide
/-- Semaphore `k` lies inside an array of six. -/
theorem sem_inb (k : Fin 6) : ∀ a, (![k.val] : Fin 1 → Nat) a + S1.size a ≤ S6.size a := by revert k; decide
/-- Band `k` of the left factor lies inside it. -/
theorem rows_inb (k : Fin 6) : ∀ a, (![128 * k.val, 0] : Fin 2 → Nat) a + S128x384.size a ≤ S768x384.size a := by
  revert k; decide
/-- Band `k` of the result lies inside it. -/
theorem band_inb (k : Fin 6) : ∀ a, (![128 * k.val, 0] : Fin 2 → Nat) a + S128x768.size a ≤ S768x768.size a := by
  revert k; decide

/-- Chunk `k` of a scratch buffer. -/
abbrev chunkR (k : Fin 6) : Rect S6x128x768 := Rect.unit (s := S6x128x768) ![k.val, 0, 0] S1x128x768.size (chunk_inb k)
/-- Rows `128 k` to `128 k + 127` of the left factor. -/
abbrev rowsR (k : Fin 6) : Rect S768x384 := Rect.unit (s := S768x384) ![128 * k.val, 0] S128x384.size (rows_inb k)
/-- Rows `128 k` to `128 k + 127` of the result. -/
abbrev bandR (k : Fin 6) : Rect S768x768 := Rect.unit (s := S768x768) ![128 * k.val, 0] S128x768.size (band_inb k)

/-- Different chunks have no element in common. -/
theorem chunk_disjoint (k k' : Fin 6) (h : k ≠ k') : Disjoint (chunkR k).set (chunkR k').set :=
  Ring.lead_disjoint (s := S6x128x768) 0 1 (fun k : Fin 6 => ![k.val, 0, 0]) S1x128x768.size chunk_inb
    (fun k => (Nat.one_mul _).symm) rfl k k' h

/-- The six chunks are the whole buffer. -/
theorem chunk_cover : Finset.univ.biUnion (fun k => (chunkR k).set) = Finset.univ :=
  Ring.lead_cover (s := S6x128x768) 0 1 (fun k : Fin 6 => ![k.val, 0, 0]) S1x128x768.size chunk_inb
    (fun k => (Nat.one_mul _).symm) (fun k a ha => by fin_cases a <;> first | exact absurd rfl ha | rfl) rfl
    (fun a ha => by fin_cases a <;> first | exact absurd rfl ha | rfl) rfl

/-- Different bands of the result have no element in common. -/
theorem band_disjoint (k k' : Fin 6) (h : k ≠ k') : Disjoint (bandR k).set (bandR k').set :=
  Ring.lead_disjoint (s := S768x768) 0 128 (fun k : Fin 6 => ![128 * k.val, 0]) S128x768.size band_inb
    (fun k => rfl) rfl k k' h

/-- The six bands are the whole result. -/
theorem band_cover : Finset.univ.biUnion (fun k => (bandR k).set) = Finset.univ :=
  Ring.lead_cover (s := S768x768) 0 128 (fun k : Fin 6 => ![128 * k.val, 0]) S128x768.size band_inb
    (fun k => rfl) (fun k a ha => by fin_cases a <;> first | exact absurd rfl ha | rfl) rfl
    (fun a ha => by fin_cases a <;> first | exact absurd rfl ha | rfl) rfl

/-! ## Memory references and semaphores -/

abbrev aM : Memref sig .tc .vmem S768x384 .f32 := Memref.whole cc0_stg0_0
abbrev bM : Memref sig .tc .vmem S384x768 .f32 := Memref.whole cc0_stg1_0
abbrev oM : Memref sig .tc .vmem S768x768 .f32 := Memref.whole cc0_stg2_0
abbrev sM : Memref sig .tc .vmem S6x128x768 .bf16 := Memref.whole cc0_scratch0
abbrev rM : Memref sig .tc .vmem S6x128x768 .bf16 := Memref.whole cc0_scratch1

/-- Chunk `k` of the buffer sent from, as the copies name it. -/
abbrev sChunk (k : Fin 6) : Memref sig .tc .vmem S128x768 .bf16 :=
  ((sM.slice (chunkR k) (fun _ => rfl)).squeeze S128x768 squeezes_S1x128x768_S128x768)
/-- Chunk `k` of the buffer received into, as the copies name it. -/
abbrev rChunk (k : Fin 6) : Memref sig .tc .vmem S128x768 .bf16 :=
  ((rM.slice (chunkR k) (fun _ => rfl)).squeeze S128x768 squeezes_S1x128x768_S128x768)

/-- The semaphore that says chunk `k` has left. -/
abbrev sentS (k : Fin 6) : DmaSem sig :=
  ((cc0_scratch2.slice (Rect.unit (s := S6) ![k.val] S1.size (sem_inb k))).squeeze S_ squeezes_S1_S_).sem
/-- The semaphore that says chunk `k` has arrived. -/
abbrev gotS (k : Fin 6) : DmaSem sig :=
  ((cc0_scratch3.slice (Rect.unit (s := S6) ![k.val] S1.size (sem_inb k))).squeeze S_ squeezes_S1_S_).sem
/-- The barrier semaphore. -/
abbrev barS : Sem sig := (SemArray.scalar (sig.barrier 0 rfl) : Sems sig S_).sem

/-- The elements of a copy's source are chunk `k`. -/
theorem sChunk_set (k : Fin 6) : (sChunk k).view.set = (chunkR k).set :=
  (View.set_reshape _ _).trans (View.set_slice_whole _ _)
/-- The elements of a copy's destination are chunk `k`. -/
theorem rChunk_set (k : Fin 6) : (rChunk k).view.set = (chunkR k).set :=
  (View.set_reshape _ _).trans (View.set_slice_whole _ _)

/-! ## Contents -/

/-- What a scratch buffer may hold. -/
abbrev Slab (F : FTy → Type) : Type := S6x128x768.Idx → Elt F .bf16

/-- Chunk `k` of a scratch buffer's contents. -/
def chunkOf (f : Slab F) (k : Fin 6) : Vec F S1x128x768 .bf16 := fun x => f ((chunkR k).emb x)

/-- Band `k` of the left factor. -/
def rowsOf (A : Vec F S768x384 .f32) (k : Fin 6) : Vec F S128x384 .f32 := fun x => A ((rowsR k).emb x)

/-- A device's partial product, one band of rows to a chunk: what its send buffer holds in the end. -/
def partialOf (A : Vec F S768x384 .f32) (B : Vec F S384x768 .f32) : Slab F := fun i =>
  k0_pay2 B (rowsOf A (i 0)) (fun a => match a with | 0 => (0 : Fin 1) | 1 => (i 1 : Fin 128) | 2 => (i 2 : Fin 768))

/-- Chunk `k` of the partial product is the product of band `k` of the left factor. -/
theorem partialOf_chunk (A : Vec F S768x384 .f32) (B : Vec F S384x768 .f32) (k : Fin 6) :
    chunkOf (partialOf A B) k = k0_pay2 B (rowsOf A k) := by
  funext x
  unfold chunkOf partialOf
  have h0 : ((chunkR k).emb x 0 : Fin 6) = k := Fin.ext (by
    have : (x 0 : ℕ) < 1 := (x 0).isLt
    show k.val + 1 * (x 0 : ℕ) = k.val; omega)
  rw [h0]
  congr 1
  funext a
  fin_cases a
  · exact Fin.ext (by have : (x 0 : ℕ) < 1 := (x 0).isLt; show 0 = (x 0 : ℕ); omega)
  · exact Fin.ext (by show 0 + 1 * (x 1 : ℕ) = (x 1 : ℕ); omega)
  · exact Fin.ext (by show 0 + 1 * (x 2 : ℕ) = (x 2 : ℕ); omega)

/-- The result: in every band, the sum of the own partial and the received one. -/
def sumOf (own got : Slab F) : Vec F S768x768 .f32 := fun i =>
  k0_pay9 (chunkOf own ⟨(i 0).val / 128, by have := (i 0).isLt; change (i 0).val < 768 at this; omega⟩)
    (chunkOf got ⟨(i 0).val / 128, by have := (i 0).isLt; change (i 0).val < 768 at this; omega⟩)
    (fun a => match a with | 0 => (⟨(i 0).val % 128, Nat.mod_lt _ (by decide)⟩ : Fin 128) | 1 => (i 1 : Fin 768))

/-- Band `k` of the result is the sum of the chunks `k`. -/
theorem sumOf_band (own got : Slab F) (k : Fin 6) (x : (bandR k).shape.Idx) :
    sumOf own got ((bandR k).emb x) = k0_pay9 (chunkOf own k) (chunkOf got k) x := by
  have hx : (x 0 : ℕ) < 128 := (x 0).isLt
  have hv : (((bandR k).emb x) 0 : ℕ) = 128 * k.val + (x 0 : ℕ) := by
    show 128 * k.val + 1 * (x 0 : ℕ) = _; omega
  unfold sumOf
  have hk : ∀ h, (⟨(((bandR k).emb x) 0 : ℕ) / 128, h⟩ : Fin 6) = k := fun h => Fin.ext (by
    show (((bandR k).emb x) 0 : ℕ) / 128 = k.val; rw [hv]; omega)
  rw [hk]
  congr 1
  funext a
  fin_cases a
  · exact Fin.ext (by show (((bandR k).emb x) 0 : ℕ) % 128 = (x 0 : ℕ); rw [hv]; omega)
  · exact Fin.ext (by show 0 + 1 * (x 1 : ℕ) = (x 1 : ℕ); omega)

/-! ## What an access does to a chunk -/

/-- Storing `w` at chunk `k` leaves any contents that read `w` there. -/
theorem store_chunk (f g : Slab F) (w : Vec F S1x128x768 .bf16) (k : Fin 6) (h : chunkOf g k = w) :
    ∀ i ∈ (chunkR k).set, (sM.access (chunkR k)).write (Elt F) f w Finset.univ i = g i := by
  intro i hi
  obtain ⟨x, -, rfl⟩ := Finset.mem_map.1 ((Rect.map_emb_univ _).symm ▸ hi)
  refine (View.write_emb_of_mem (v := sM.access (chunkR k)) f w (Finset.mem_univ x)).trans ?_
  rw [← h]; rfl

/-- Storing `w` at band `k` leaves any contents that read `w` there. -/
theorem store_band (f g : Vec F S768x768 .f32) (w : Vec F S128x768 .f32) (k : Fin 6)
    (h : ∀ x, g ((bandR k).emb x) = w x) :
    ∀ i ∈ (bandR k).set, (oM.access (bandR k)).write (Elt F) f w Finset.univ i = g i := by
  intro i hi
  obtain ⟨x, -, rfl⟩ := Finset.mem_map.1 ((Rect.map_emb_univ _).symm ▸ hi)
  refine (View.write_emb_of_mem (v := oM.access (bandR k)) f w (Finset.mem_univ x)).trans ?_
  rw [h]; rfl

/-- A copy of chunk `k` lands the source's elements where they were in the source. -/
theorem copy_chunk (fd fs : Slab F) (k : Fin 6) :
    ∀ i ∈ (rChunk k).view.set, (rChunk k).view.write (Elt F) fd ((sChunk k).view.read (Elt F) fs) Finset.univ i = fs i := by
  intro i hi
  obtain ⟨x, -, rfl⟩ := Finset.mem_map.1 hi
  refine (View.write_emb_of_mem (v := (rChunk k).view) fd _ (Finset.mem_univ x)).trans ?_
  rfl

end Cert.Exchange

end
-- ==== Proof.Protocol.lean ====
module

public import proofs.«01_k».proof.Proof.Chunks

/-! # What the semaphores promise

Every device has thirteen semaphores in play: the barrier, six that say a chunk has left, six that say a chunk has
arrived. This module says what each of them hands over when it is waited for, what every device owes the other one at
the start, and in which order the waits may happen. -/

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's own copy beside the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-! ## The semaphores by name -/

/-- The thirteen: the barrier, then the six that say a chunk left, then the six that say one arrived. -/
abbrev Cell : Type := Unit ⊕ (Fin 6 ⊕ Fin 6)
abbrev bar : Cell := .inl ()
abbrev sent (k : Fin 6) : Cell := .inr (.inl k)
abbrev got (k : Fin 6) : Cell := .inr (.inr k)

/-- The twelve of them that belong to the kernel alone. -/
abbrev ownSem : Fin 6 ⊕ Fin 6 → SemLoc sig
  | .inl k => .dma (sentS k)
  | .inr k => .dma (gotS k)
/-- The semaphore of a name. -/
abbrev semOf : Cell → SemLoc sig
  | .inl _ => .reg barS
  | .inr j => ownSem j

/-- The twelve are different semaphores. -/
theorem ownSem_injective : Function.Injective ownSem := by decide
/-- The thirteen are different semaphores. -/
theorem semOf_injective : Function.Injective semOf := by
  rintro (⟨⟩ | j) (⟨⟩ | j') h
  · rfl
  · rcases j' with k | k <;> exact absurd h (fun h => by cases h)
  · rcases j with k | k <;> exact absurd h (fun h => by cases h)
  · exact congrArg _ (ownSem_injective h)

/-- The name of a semaphore, if it is one of the thirteen. -/
def nameOf (s : SemLoc sig) : Option Cell := Function.partialInv semOf s
theorem nameOf_semOf (i : Cell) : nameOf (semOf i) = some i := Function.partialInv_left semOf_injective i
/-- A semaphore with a name is the semaphore of that name. -/
theorem semOf_of_nameOf {s : SemLoc sig} {i : Cell} (h : nameOf s = some i) : s = semOf i := by
  by_contra hn
  unfold nameOf Function.partialInv at h
  split at h
  · next h' => exact hn (by rw [← Option.some.inj h]; exact (Classical.choose_spec h').symm)
  · cases h

/-- Semaphore `i` of device `c`. -/
abbrev cellAt (c : Dev nD) (i : Cell) : GSem nD τ sig := ((c : Thread nD τ), semOf i)

/-- What one copy of a chunk counts for on a semaphore. -/
abbrev N : ℕ := (rChunk 0).view.dmaCredit
theorem N_pos : 0 < N := View.dmaCredit_pos _ (by decide)

/-! ## Contents -/

/-- The left factor's block as the kernel finds it. -/
def blkA (c : Dev nD) : Vec F S768x384 .f32 :=
  (win0_0.blk (0 : Fin 1)).view.read (Elt F) (m ((c : Thread nD τ).loc main_arg0))
/-- The right factor's block as the kernel finds it. -/
def blkB (c : Dev nD) : Vec F S384x768 .f32 :=
  (win0_1.blk (0 : Fin 1)).view.read (Elt F) (m ((c : Thread nD τ).loc main_arg1))
/-- A device's partial product. -/
def part (c : Dev nD) : Slab F := partialOf (blkA m c) (blkB m c)
/-- What the kernel leaves as its result. -/
def outAt (c : Dev nD) : Vec F S768x768 .f32 := sumOf (part m c) (part m (peer c))

/-! ## Ownership of a chunk -/

/-- A share `q` of chunk `k` of the buffer device `c` sends from, holding `f`. -/
def sPts (c : Dev nD) (k : Fin 6) (q : PosShare TreeShare) (f : Slab F) : sProp 𝕄 :=
  sM.view.loc (c : Thread nD τ) ↦[(chunkR k).set]{q} f
/-- Chunk `k` of the buffer device `c` receives into, holding `f`. -/
def rPts (c : Dev nD) (k : Fin 6) (f : Slab F) : sProp 𝕄 :=
  rM.view.loc (c : Thread nD τ) ↦[(chunkR k).set]{fullShare} f
/-- Band `k` of device `c`'s result, holding `f`. -/
def oPts (c : Dev nD) (k : Fin 6) (f : Vec F S768x768 .f32) : sProp 𝕄 :=
  oM.view.loc (c : Thread nD τ) ↦[(bandR k).set]{fullShare} f

instance sPts_storable (c : Dev nD) (k : Fin 6) (q) (f : Slab F) : BI.Storable (upEmb : UEmb _ 𝕄) (sPts (F := F) c k q f) := by
  unfold sPts; infer_instance
instance rPts_storable (c : Dev nD) (k : Fin 6) (f : Slab F) : BI.Storable (upEmb : UEmb _ 𝕄) (rPts (F := F) c k f) := by
  unfold rPts; infer_instance

/-! ## The schedule -/

/-- What each semaphore of device `c` hands over: the barrier the other device's receive buffer, chunk by chunk; a
    semaphore of departure the half of the chunk lent to the copy; one of arrival the chunk of the other device's
    partial product. -/
def pay (c : Dev nD) : Cell → sProp 𝕄
  | .inl _ => bigSep Finset.univ fun k : Fin 6 => iprop(∃ f, rPts (peer c) k f)
  | .inr (.inl k) => sPts c k fullShare.left (part m c)
  | .inr (.inr k) => rPts c k (part m (peer c))

/-- What one arrival counts for. -/
def amountOfCell : Cell → ℕ
  | .inl _ => 1
  | .inr _ => N

theorem amountOfCell_pos (i : Cell) : 0 < amountOfCell i := by
  rcases i with _ | _
  · exact Nat.one_pos
  · exact N_pos

instance pay_storable (c : Dev nD) (i : Cell) : BI.Storable (upEmb : UEmb _ 𝕄) (pay (F := F) m c i) := by
  rcases i with _ | k | k
  · unfold pay; infer_instance
  · unfold pay; infer_instance
  · unfold pay; infer_instance

/-- One round: each of the thirteen semaphores of every device is raised once. -/
def sched : Rounds.Schedule (GSem nD τ sig) Unit 𝕄 where
  duties g r := if r = 0 ∧ g.1.2 = .tc ∧ (nameOf g.2).isSome then {()} else ∅
  unitless _ := False
  amount g _ _ := (nameOf g.2).elim 1 amountOfCell
  payload g _ _ := (nameOf g.2).elim iprop(emp) (pay m g.1.1)
  amount_pos g _ _ _ := by
    rcases nameOf g.2 with _ | i
    · exact Nat.one_pos
    · exact amountOfCell_pos i

instance sched_storable (g : GSem nD τ sig) (r : ℕ) (d : Unit) :
    BI.Storable (upEmb : UEmb _ 𝕄) ((sched (F := F) m).payload g r d) := by
  show BI.Storable upEmb ((nameOf g.2).elim iprop(emp) (pay m g.1.1))
  rcases nameOf g.2 with _ | i
  · show BI.Storable upEmb iprop(emp); infer_instance
  · show BI.Storable upEmb (pay m g.1.1 i); infer_instance

section Sched
variable (c : Dev nD) (i : Cell)

theorem duties_at : (sched (F := F) m).duties (cellAt c i) 0 = {()} := by
  dsimp only [sched]; rw [nameOf_semOf]; exact if_pos ⟨rfl, rfl, rfl⟩
theorem mem_duties : () ∈ (sched (F := F) m).duties (cellAt c i) 0 := by
  rw [duties_at]; exact Finset.mem_singleton_self _
theorem duties_later (g : GSem nD τ sig) : ∀ r, 0 + 1 ≤ r → (sched (F := F) m).duties g r = ∅ :=
  fun r hr => by dsimp only [sched]; rw [if_neg fun h => by omega]
theorem amount_at (d : Unit) : (sched (F := F) m).amount (cellAt c i) 0 d = amountOfCell i := by
  dsimp only [sched]; rw [nameOf_semOf]; rfl
theorem payload_at (d : Unit) : (sched (F := F) m).payload (cellAt c i) 0 d = pay m c i := by
  dsimp only [sched]; rw [nameOf_semOf]; rfl
theorem expect_at : (sched (F := F) m).expect (cellAt c i) 0 = amountOfCell i := by
  unfold Schedule.expect Schedule.amountOf; rw [duties_at, Finset.sum_singleton, amount_at]
/-- Waiting for the whole round hands over exactly the semaphore's one payload. -/
theorem rest_at : bigSep ((sched (F := F) m).duties (cellAt c i) 0 \ ∅) (fun d => (sched (F := F) m).payload (cellAt c i) 0 d)
    = pay m c i := by
  rw [Finset.sdiff_empty, duties_at, bigSep_singleton, payload_at]

end Sched

/-! ## What is owed, and the order of the waits -/

/-- What device `c` still owes the other one's semaphores of arrival before copy `n`. -/
def due (c : Dev nD) (n : ℕ) : CellTallies nD τ sig Unit :=
  ∑ k ∈ Finset.univ.filter (fun k : Fin 6 => n ≤ k.val), tallyAt (cellAt (peer c) (got k)) () N

/-- Copy `k` pays for its chunk. -/
theorem due_step (c : Dev nD) (k : Fin 6) : due c k.val = due c (k.val + 1) + tallyAt (cellAt (peer c) (got k)) () N := by
  have h : Finset.univ.filter (fun j : Fin 6 => k.val ≤ j.val)
      = insert k (Finset.univ.filter (fun j : Fin 6 => k.val + 1 ≤ j.val)) := by revert k; decide
  unfold due
  rw [h, Finset.sum_insert (by simp), add_comm]

/-- After the six copies nothing is owed. -/
theorem due_six (c : Dev nD) : due c 6 = 0 := by
  unfold due
  rw [show Finset.univ.filter (fun k : Fin 6 => 6 ≤ k.val) = ∅ from by decide, Finset.sum_empty]

/-- What device `c` owes at the start: the six chunks, and its signal. -/
def owed₀ (c : Dev nD) : CellTallies nD τ sig Unit := due c 0 + tallyAt (cellAt (peer c) bar) () 1

/-- The semaphores the order speaks of are the TensorCores'. -/
def L (g : GSem nD τ sig) : Finset Unit := if g.1.2 = .tc then {()} else ∅
/-- The barrier comes before the arrivals; all else comes first. -/
def lv (g : GSem nD τ sig) (_ : Unit) : ℕ :=
  match nameOf g.2 with
  | some (.inl _) => 1
  | some (.inr (.inr _)) => 2
  | _ => 0

theorem L_of_ne (g : GSem nD τ sig) (h : g.1.2 ≠ .tc) : L g = ∅ := if_neg h
theorem L_tc (c : Dev nD) (s : SemLoc sig) : L ((c : Thread nD τ), s) = {()} := if_pos rfl
theorem lv_bar (c : Dev nD) (u : Unit) : lv (cellAt c bar) u = 1 := by unfold lv; rw [show nameOf (cellAt c bar).2 = _ from nameOf_semOf bar]
theorem lv_got (c : Dev nD) (k : Fin 6) (u : Unit) : lv (cellAt c (got k)) u = 2 := by unfold lv; rw [show nameOf (cellAt c (got k)).2 = _ from nameOf_semOf (got k)]

theorem due_pos {c : Dev nD} {n : ℕ} {g : GSem nD τ sig} {u : Unit} (h : 0 < due c n g u) :
    ∃ k, g = cellAt (peer c) (got k) := by
  by_contra hn
  have hz : due c n g u = 0 := by
    unfold due
    rw [Finset.sum_apply, Finsupp.finset_sum_apply]
    exact Finset.sum_eq_zero fun k _ => by
      rw [tallyAt_apply, if_neg (fun h' => hn ⟨k, h'.1⟩)]
  omega

theorem owed₀_pos {c : Dev nD} {g : GSem nD τ sig} {u : Unit} (h : 0 < owed₀ c g u) :
    (∃ k, g = cellAt (peer c) (got k)) ∨ g = cellAt (peer c) bar := by
  by_cases hb : g = cellAt (peer c) bar
  · exact .inr hb
  · unfold owed₀ at h
    rw [Pi.add_apply, Finsupp.add_apply, tallyAt_apply, if_neg (fun h' => hb h'.1), Nat.add_zero] at h
    exact .inl (due_pos h)

/-- The pipeline's own waits come before all that is owed. -/
theorem mayWait_stage (c : Dev nD) (q : DmaSem sig) (hq : nameOf (.dma q) = none) (O : CellTallies nD τ sig Unit)
    (hO : O = owed₀ c ∨ O = 0) : (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by rcases owed₀_pos hg with ⟨k, rfl⟩ | rfl <;> exact Finset.mem_singleton_self _)
      (fun p hp => by rw [Finset.mem_singleton.mp hp]; unfold lv; rw [hq])
      (fun g u hg => by
        rcases owed₀_pos hg with ⟨k, rfl⟩ | rfl
        · rw [lv_got]; decide
        · rw [lv_bar]; decide)
  · rw [MayWait_zero]; iintro -; iempintro

/-- At the barrier only arrivals are owed. -/
theorem mayWait_bar (c : Dev nD) : (levAts L lv : sProp 𝕄) ⊢ MayWait (c : Thread nD τ) (semOf bar) () (due c 0) :=
  MayOwe.of_cut (L := L) (lev := lv) 1
    (fun p hp => by rw [Finset.mem_singleton.mp hp, L_tc]; exact Finset.mem_singleton_self _)
    (fun g u hg => by obtain ⟨k, rfl⟩ := due_pos hg; exact Finset.mem_singleton_self _)
    (fun p hp => by rw [Finset.mem_singleton.mp hp]; exact (lv_bar c ()).le)
    (fun g u hg => by obtain ⟨k, rfl⟩ := due_pos hg; rw [lv_got]; decide)

/-! ## What every device starts from -/

/-- Known to all: the invariant of every semaphore, and that each has reached its round. -/
def records (K : Dev nD × Cell → ℕ) : sProp 𝕄 :=
  iprop((bigSep Finset.univ fun x : Dev nD × Cell => cellInv ER (sched m) (K x) (cellAt x.1 x.2))
    ∗ bigSep Finset.univ fun x : Dev nD × Cell => reached ER (cellAt x.1 x.2) 0)

instance records_persistent (K : Dev nD × Cell → ℕ) : BI.Persistent (records m K) := by unfold records; infer_instance

theorem inv_at (K : Dev nD × Cell → ℕ) (c : Dev nD) (i : Cell) :
    records m K ⊢ cellInv ER (sched m) (K (c, i)) (cellAt c i) := by
  have h : (bigSep Finset.univ fun x : Dev nD × Cell => (cellInv ER (sched m) (K x) (cellAt x.1 x.2) : sProp 𝕄))
      ⊢ cellInv ER (sched m) (K (c, i)) (cellAt c i) := bigSep_elim (Finset.mem_univ (c, i))
  unfold records
  iintro ⟨H, -⟩
  iapply h; iexact H

theorem reached_at (K : Dev nD × Cell → ℕ) (c : Dev nD) (i : Cell) : records m K ⊢ reached ER (cellAt c i) 0 := by
  have h : (bigSep Finset.univ fun x : Dev nD × Cell => (reached ER (cellAt x.1 x.2) 0 : sProp 𝕄))
      ⊢ reached ER (cellAt c i) 0 := bigSep_elim (Finset.mem_univ (c, i))
  unfold records
  iintro ⟨-, H⟩
  iapply h; iexact H

/-- The rights to raise that device `c` spends: the other device's barrier and arrivals, its own departures. -/
def payToks (c : Dev nD) : sProp 𝕄 :=
  iprop(dutyTok ER (cellAt (peer c) bar) 0 ()
    ∗ (bigSep Finset.univ fun k : Fin 6 => dutyTok ER (cellAt c (sent k)) 0 ())
    ∗ bigSep Finset.univ fun k : Fin 6 => dutyTok ER (cellAt (peer c) (got k)) 0 ())

/-- Device `c`'s places at its own semaphores, and the rights it spends. -/
def linear (c : Dev nD) : sProp 𝕄 :=
  iprop((bigSep Finset.univ fun i : Cell => atPos ER (cellAt c i) 0 ∅ 0) ∗ payToks c)

/-- That what device `c` waits for will come: its barrier's signal and the six arrivals. -/
def credits (c : Dev nD) : sProp 𝕄 :=
  iprop(cred (tallyAt (cellAt c bar) () 1) ∗ bigSep Finset.univ fun k : Fin 6 => cred (tallyAt (cellAt c (got k)) () N))

/-- What device `c`'s body starts from, buffers aside. -/
def start (c : Dev nD) : sProp 𝕄 :=
  iprop((∃ K, records m K ∗ linear c) ∗ credits c ∗ levAts L lv)

/-- Before the body: that, and the two scratch buffers at any contents. -/
def Φ₀ (c : Dev nD) : sProp 𝕄 :=
  iprop(start m c ∗ (∃ f, bigSep Finset.univ fun k : Fin 6 => sPts c k fullShare f) ∗ ∃ f, bigSep Finset.univ fun k : Fin 6 => rPts c k f)
/-- After it: the two scratch buffers at the two partial products, and every semaphore back at zero. -/
def Φ₁ (c : Dev nD) : sProp 𝕄 :=
  iprop((bigSep Finset.univ fun k : Fin 6 => sPts c k fullShare (part m c))
    ∗ (bigSep Finset.univ fun k : Fin 6 => rPts c k (part m (peer c)))
    ∗ bigSep Finset.univ fun i : Cell => semVal (cellAt c i) 0)

/-- The pipeline's proof data: the arrays as launched, what the body leaves in the three blocks, and the above. -/
def dats (_ : Fin 1) (c : Dev nD) : Dat τ (Elt F) Unit ℕ UU ℕ cfg0 c where
  A w := m ((cfg0.win w).arr.view.loc (c : Thread nD τ))
  after w _ := match w with
    | ⟨0, _⟩ => blkA m c
    | ⟨1, _⟩ => blkB m c
    | ⟨2, _⟩ => outAt m c
  Φ t := match t with
    | ⟨0, _⟩ => Φ₀ m c
    | ⟨_ + 1, _⟩ => Φ₁ m c
  q _ := fullShare
  owed t := match t with
    | ⟨0, _⟩ => owed₀ c
    | ⟨_ + 1, _⟩ => 0

abbrev 𝒱₀ : Variants := Variants.none

end Cert.Exchange

end
-- ==== Proof.Steps.lean ====
module

public import proofs.«01_k».proof.Proof.Protocol

/-! # One rule for each kind of step

What a device needs for each of its steps, and what it has afterwards: the signal, the wait at the barrier, a chunk
stored, a chunk sent, an arrival and a departure waited for, a chunk read, a band of the result written. -/

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cell → ℕ)

/-- The tally device `c` owes, whatever it has waited for. -/
def owing (c : Dev nD) (O : CellTallies nD τ sig Unit) : sProp 𝕄 := iprop(∃ W, owes (c : Thread nD τ) O W)

/-- The rest of a device's program, run to the end. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (c : Dev nD) {α : Type}

/-! ## The barrier -/

/-- The signal hands the other device this one's receive buffer. -/
theorem step_signal (n : Dev nD) (hn : n = peer c) {post : α → sProp 𝕄} {next : PUnit → Prog (TpuEff nD τ sig (Elt F) Λ₀ .tc) α} :
    iprop(records m K ∗ owing c (owed₀ c) ∗ dutyTok ER (cellAt (peer c) bar) 0 () ∗ bigSep Finset.univ fun k : Fin 6 => iprop(∃ f, rPts (F := F) c k f))
      ⊢ iprop((owing c (due c 0) -∗ runs c (next ⟨⟩) post) -∗ runs c (.op (.semSignal (n : Thread nD τ) barS 1) next) post) := by
  subst hn
  unfold owing
  iintro ⟨#HR, ⟨%W, HO⟩, Ht, Hr⟩ Hk
  iapply (Rounds.wp_signal 𝒱₀ ER (sched m) (c : Thread nD τ) none (dst := (peer c : Thread nD τ)) (κ := K (peer c, bar))
    (d := ()) (mem_duties m (peer c) bar) (amount_at m (peer c) bar ()) () (due c 0) rfl) $$ [HO Ht Hr]
  · isplitr; · iapply (inv_at m K (peer c) bar); iexact HR
    isplitl [HO]; · iexact HO
    isplitl [Ht]; · iexact Ht
    isplitl [Hr]
    · iapply (Entails.of_eq ((payload_at m (peer c) bar ()).trans (by unfold pay; rw [peer_peer])).symm); iexact Hr
    · iapply (reached_at m K (peer c) bar); iexact HR
  iintro HO
  iapply Hk
  iexists W; iexact HO

/-- A wait for the whole of semaphore `i`'s round hands over its payload and leaves the semaphore at zero. -/
theorem step_wait (i : Cell) {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (semOf i) (amountOfCell i) K')
    (O : CellTallies nD τ sig Unit) {post : α → sProp 𝕄} {next : PUnit → Prog (TpuEff nD τ sig (Elt F) Λ₀ .tc) α} :
    iprop(records m K ∗ cred (tallyAt (cellAt c i) () (amountOfCell i)) ∗ owing c O ∗ MayWait (c : Thread nD τ) (semOf i) () O ∗ atPos ER (cellAt c i) 0 ∅ 0)
      ⊢ iprop(((owing c O ∗ semVal (cellAt c i) 0 ∗ pay m c i) -∗ runs c (next ⟨⟩) post) -∗ runs c (.op w next) post) := by
  unfold owing
  iintro ⟨#HR, Hc, ⟨%W, HO⟩, Hmay, Hat⟩ Hk
  iapply (Rounds.wp_wait_rest_token 𝒱₀ ER (sched m) (c : Thread nD τ) none (κ := K (c, i)) hw (Set.mem_univ _) () (O := O) (W := W)
    (R := 0) (m := 0) (T := ∅) (by rw [Nat.zero_add, expect_at])) $$ [Hc HO Hmay Hat]
  · isplitr; · iapply (inv_at m K c i); iexact HR
    isplitl [Hc]; · iexact Hc
    isplitl [HO]; · iexact HO
    isplitl [Hmay]; · iexact Hmay
    iexact Hat
  iintro ⟨HO, Hat, -, Hpay⟩
  ihave Hp := (Entails.of_eq (rest_at m c i)) $$ Hpay
  imod (Rounds.cell_close ER (sched m) (Set.mem_univ (K (c, i))) (fun h => h) (R := 0 + 1) (duties_later m (cellAt c i))) $$ [Hat] with Hz
  · isplitr; · iapply (inv_at m K c i); iexact HR
    iexact Hat
  iapply Hk
  isplitl [HO]; · iexists _; iexact HO
  isplitl [Hz]; · iexact Hz
  iexact Hp

/-- The wait at the barrier hands over the other device's receive buffer. -/
theorem step_barrier {post : α → sProp 𝕄} {next : PUnit → Prog (TpuEff nD τ sig (Elt F) Λ₀ .tc) α} :
    iprop(records m K ∗ cred (tallyAt (cellAt c bar) () 1) ∗ owing c (due c 0) ∗ levAts L lv ∗ atPos ER (cellAt c bar) 0 ∅ 0)
      ⊢ iprop(((owing c (due c 0) ∗ semVal (cellAt c bar) 0 ∗ bigSep Finset.univ fun k : Fin 6 => iprop(∃ f, rPts (F := F) (peer c) k f)) -∗ runs c (next ⟨⟩) post)
        -∗ runs c (.op (.semWait barS 1) next) post) := by
  iintro ⟨#HR, Hc, HO, Hl, Hat⟩ Hk
  iapply (step_wait m K c bar (wpE_semWait_eq 𝒱₀ (c : Thread nD τ) none Set.univ) (due c 0)) $$ [Hc HO Hl Hat]
  · isplitr; · iexact HR
    isplitl [Hc]; · iexact Hc
    isplitl [HO]; · iexact HO
    isplitl [Hl]; · iapply (mayWait_bar c); iexact Hl
    iexact Hat
  iexact Hk

/-! ## The copies -/

/-- Sending chunk `k` lends the copy half of it and pays for the other device's arrival. -/
theorem step_send (k : Fin 6) (n : Dev nD) (hn : n = peer c)
    {hsc : (rChunk k : Memref sig (Dev.tc n : Thread nD τ).2.kind .vmem S128x768 .bf16).view.ref.isScScratch = false}
    {hsrc : (sChunk k).view.WordExact} {hdst : (rChunk k).view.WordExact}
    {hsem : DmaTarget.Typed .vmem (.dma (gotS k)) (.remote (Dev.tc n : Thread nD τ) (rChunk k) (.dma (sentS k)) hsc)}
    {post : α → sProp 𝕄} {next : PUnit → Prog (TpuEff nD τ sig (Elt F) Λ₀ .tc) α} :
    iprop(records m K ∗ sPts c k fullShare (part m c) ∗ (∃ f, rPts (F := F) (peer c) k f) ∗ owing c (due c k.val)
        ∗ dutyTok ER (cellAt c (sent k)) 0 () ∗ dutyTok ER (cellAt (peer c) (got k)) 0 ())
      ⊢ iprop(((cred (tallyAt (cellAt c (sent k)) () N) ∗ sPts c k fullShare.right (part m c) ∗ owing c (due c (k.val + 1))) -∗ runs c (next ⟨⟩) post)
        -∗ runs c (.op (.enqueueDma (sChunk k) (.remote (Dev.tc n : Thread nD τ) (rChunk k) (.dma (sentS k)) hsc) (.dma (gotS k)) hsrc hdst hsem) next) post) := by
  subst hn
  unfold owing
  iintro ⟨#HR, Hs, ⟨%f, Hr⟩, ⟨%W, HO⟩, Ht1, Ht2⟩ Hk
  unfold sPts rPts
  ihave Hs := (pointsTo_share (PosShare.mem_left_op_right fullShare)).1 $$ Hs
  icases Hs with ⟨Hl, Hh⟩
  iapply (Rounds.wp_send_pointsTo 𝒱₀ ER (sched m) (c : Thread nD τ) none (κ₁ := K (c, sent k)) (κ₂ := K (peer c, got k))
    (c' := (peer c : Thread nD τ)) (src := sChunk k) (dst := rChunk k) (q := fullShare.left) (fs := part m c) (fd := f)
    (r₁ := 0) (r₂ := 0) (d₁ := ()) (d₂ := ()) (mem_duties m c (sent k)) (mem_duties m (peer c) (got k))
    () () N rfl (amount_at m c (sent k) ()) (amount_at m (peer c) (got k) ()) (due c (k.val + 1)) (due_step c k) (W := W)
    (by rw [sChunk_set]; exact Entails.of_eq (payload_at m c (sent k) ()).symm)
    (by rw [pointsTo_congr (copy_chunk f (part m c) k), rChunk_set]
        refine Entails.of_eq ((payload_at m (peer c) (got k) ()).trans ?_).symm
        unfold pay rPts; rw [peer_peer])) $$ [Hl Hr HO Ht1 Ht2]
  · isplitr; · iapply (inv_at m K c (sent k)); iexact HR
    isplitr; · iapply (inv_at m K (peer c) (got k)); iexact HR
    isplitl [Hl]; · rw [sChunk_set]; iexact Hl
    isplitl [Hr]; · rw [rChunk_set]; iexact Hr
    isplitl [HO]; · iexact HO
    isplitl [Ht1]; · iexact Ht1
    isplitr; · iapply (reached_at m K c (sent k)); iexact HR
    isplitl [Ht2]; · iexact Ht2
    iapply (reached_at m K (peer c) (got k)); iexact HR
  iintro ⟨Hc, HO⟩
  iapply Hk
  isplitl [Hc]; · iexact Hc
  isplitl [Hh]; · iexact Hh
  iexists W; iexact HO

/-- The arrival of chunk `k`: the other device's partial product is here. -/
theorem step_got (k : Fin 6) {hs : (sChunk k).view.WordExact} {hd : (rChunk k).view.WordExact} {post : α → sProp 𝕄} {next : PUnit → Prog (TpuEff nD τ sig (Elt F) Λ₀ .tc) α} :
    iprop(records m K ∗ cred (tallyAt (cellAt c (got k)) () N) ∗ owing c 0 ∗ atPos ER (cellAt c (got k)) 0 ∅ 0)
      ⊢ iprop(((owing c 0 ∗ semVal (cellAt c (got k)) 0 ∗ rPts c k (part m (peer c))) -∗ runs c (next ⟨⟩) post)
        -∗ runs c (.op (.waitDma2 (p := .tc) (gotS k) (sChunk k) (rChunk k) hs hd) next) post) := by
  iintro ⟨#HR, Hc, HO, Hat⟩ Hk
  iapply (step_wait m K c (got k) (wpE_waitDma2_eq 𝒱₀ (c : Thread nD τ) none Set.univ (hsrc := hs) (hdst := hd)) 0) $$ [Hc HO Hat]
  · isplitr; · iexact HR
    isplitl [Hc]; · iexact Hc
    isplitl [HO]; · iexact HO
    isplitr; · rw [MayWait_zero]; iempintro
    iexact Hat
  iexact Hk

/-- The departure of chunk `k`: the lent half is back, and the chunk whole again. -/
theorem step_sent (k : Fin 6) {hs : (sChunk k).view.WordExact} {hd : (rChunk k).view.WordExact} {post : α → sProp 𝕄} {next : PUnit → Prog (TpuEff nD τ sig (Elt F) Λ₀ .tc) α} :
    iprop(records m K ∗ cred (tallyAt (cellAt c (sent k)) () N) ∗ owing c 0 ∗ atPos ER (cellAt c (sent k)) 0 ∅ 0 ∗ sPts c k fullShare.right (part m c))
      ⊢ iprop(((owing c 0 ∗ semVal (cellAt c (sent k)) 0 ∗ sPts c k fullShare (part m c)) -∗ runs c (next ⟨⟩) post)
        -∗ runs c (.op (.waitDma2 (p := .tc) (sentS k) (rChunk k) (sChunk k) hd hs) next) post) := by
  iintro ⟨#HR, Hc, HO, Hat, Hh⟩ Hk
  iapply (step_wait m K c (sent k) (wpE_waitDma2_eq 𝒱₀ (c : Thread nD τ) none Set.univ (hsrc := hd) (hdst := hs)) 0) $$ [Hc HO Hat]
  · isplitr; · iexact HR
    isplitl [Hc]; · iexact Hc
    isplitl [HO]; · iexact HO
    isplitr; · rw [MayWait_zero]; iempintro
    iexact Hat
  iintro ⟨HO, Hz, Hl⟩
  iapply Hk
  isplitl [HO]; · iexact HO
  isplitl [Hz]; · iexact Hz
  unfold pay sPts
  iapply (pointsTo_share (PosShare.mem_left_op_right fullShare)).2
  isplitl [Hl] <;> iassumption

/-! ## Loads and stores -/

/-- Reading chunk `k` of the send buffer. -/
theorem step_loadS (k : Fin 6) (q : PosShare TreeShare) (f : Slab F) {hl}
    {post : α → sProp 𝕄} {next : (S1x128x768.Idx → Elt F .bf16) → Prog (TpuEff nD τ sig (Elt F) Λ₀ .tc) α} :
    sPts c k q f ⊢ iprop((sPts c k q f -∗ runs c (next (chunkOf f k)) post) -∗ runs c (.op (.load sM (chunkR k).toLoadRect hl) next) post) := by
  unfold sPts
  exact wp_load 𝒱₀ (c : Thread nD τ) none Set.univ (m := sM) (r := (chunkR k).toLoadRect) Finset.map_refl.subset

/-- Reading chunk `k` of the receive buffer. -/
theorem step_loadR (k : Fin 6) (f : Slab F) {hl}
    {post : α → sProp 𝕄} {next : (S1x128x768.Idx → Elt F .bf16) → Prog (TpuEff nD τ sig (Elt F) Λ₀ .tc) α} :
    rPts c k f ⊢ iprop((rPts c k f -∗ runs c (next (chunkOf f k)) post) -∗ runs c (.op (.load rM (chunkR k).toLoadRect hl) next) post) := by
  unfold rPts
  exact wp_load 𝒱₀ (c : Thread nD τ) none Set.univ (m := rM) (r := (chunkR k).toLoadRect) Finset.map_refl.subset

/-- Reading band `k` of the result before it is written: whatever was there. -/
theorem step_loadO (k : Fin 6) (f : Vec F S768x768 .f32) {hl}
    {post : α → sProp 𝕄} {next : (S128x768.Idx → Elt F .f32) → Prog (TpuEff nD τ sig (Elt F) Λ₀ .tc) α} :
    oPts c k f ⊢ iprop((oPts c k f -∗ runs c (next (fun x => f ((bandR k).emb x))) post) -∗ runs c (.op (.load oM (bandR k).toLoadRect hl) next) post) := by
  unfold oPts
  exact wp_load 𝒱₀ (c : Thread nD τ) none Set.univ (m := oM) (r := (bandR k).toLoadRect) Finset.map_refl.subset

/-- Storing the product of band `k` makes chunk `k` the device's partial product. -/
theorem step_storeS (k : Fin 6) (f g : Slab F) (w : Vec F S1x128x768 .bf16) (hw : w = chunkOf g k) {hx hm}
    {post : α → sProp 𝕄} {next : PUnit → Prog (TpuEff nD τ sig (Elt F) Λ₀ .tc) α} :
    sPts c k fullShare f ⊢ iprop((sPts c k fullShare g -∗ runs c (next ⟨⟩) post) -∗ runs c (.op (.store sM (chunkR k) w Finset.univ hx hm) next) post) := by
  unfold sPts
  iintro H Hk
  iapply (wp_store 𝒱₀ (c : Thread nD τ) none Set.univ (m := sM) (r := chunkR k) (Mk := Finset.univ) (View.set_slice_whole _ _).subset) $$ H
  iintro H
  iapply Hk
  iapply (Entails.of_eq (pointsTo_congr (store_chunk f g w k hw.symm))); iexact H

/-- Storing the sum of the chunks `k` makes band `k` the kernel's result. -/
theorem step_storeO (k : Fin 6) (f g : Vec F S768x768 .f32) (w : Vec F S128x768 .f32) (hw : ∀ x, g ((bandR k).emb x) = w x) {hx hm}
    {post : α → sProp 𝕄} {next : PUnit → Prog (TpuEff nD τ sig (Elt F) Λ₀ .tc) α} :
    oPts c k f ⊢ iprop((oPts c k g -∗ runs c (next ⟨⟩) post) -∗ runs c (.op (.store oM (bandR k) w Finset.univ hx hm) next) post) := by
  unfold oPts
  iintro H Hk
  iapply (wp_store 𝒱₀ (c : Thread nD τ) none Set.univ (m := oM) (r := bandR k) (Mk := Finset.univ) (View.set_slice_whole _ _).subset) $$ H
  iintro H
  iapply Hk
  iapply (Entails.of_eq (pointsTo_congr (store_band f g w k hw))); iexact H

end Cert.Exchange

end
-- ==== Proof.Phases.lean ====
module

public import proofs.«01_k».proof.Proof.Steps

/-! # The two phases of a chunk

A chunk is multiplied, stored and sent; later its counterpart arrives and is added. Each is a run of steps that is the
same for all six chunks. -/

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cell → ℕ) (c : Dev nD) {α : Type}

/-! ## The two inputs -/

/-- The left factor's block, where the kernel reads it. -/
def aPts : sProp 𝕄 := aM.view.loc (c : Thread nD τ) ↦{fullShare} blkA m c
/-- The right factor's block, where the kernel reads it. -/
def bPts : sProp 𝕄 := bM.view.loc (c : Thread nD τ) ↦{fullShare} blkB m c

/-- The whole of the right factor's block. -/
abbrev wholeR : Rect S384x768 := Rect.unit (s := S384x768) ![0, 0] S384x768.size inb_S384x768_S384x768_0_0

/-- Reading band `k` of the left factor. -/
theorem step_loadA (k : Fin 6) {hl} {post : α → sProp 𝕄} {next : (S128x384.Idx → Elt F .f32) → Prog (TpuEff nD τ sig (Elt F) Λ₀ .tc) α} :
    aPts m c ⊢ iprop((aPts m c -∗ runs c (next (rowsOf (blkA m c) k)) post) -∗ runs c (.op (.load aM (rowsR k).toLoadRect hl) next) post) := by
  unfold aPts
  exact wp_load 𝒱₀ (c : Thread nD τ) none Set.univ (m := aM) (r := (rowsR k).toLoadRect) (Finset.subset_univ _)

/-- Reading the whole of the right factor's block. -/
theorem step_loadB {hl} {post : α → sProp 𝕄} {next : (S384x768.Idx → Elt F .f32) → Prog (TpuEff nD τ sig (Elt F) Λ₀ .tc) α} :
    bPts m c ⊢ iprop((bPts m c -∗ runs c (next (blkB m c)) post) -∗ runs c (.op (.load bM wholeR.toLoadRect hl) next) post) := by
  unfold bPts
  have h : bM.view.readAt (Elt F) wholeR.toLoadRect (blkB m c) = blkB m c :=
    Memref.readAt_unit_zero (Elt F) cc0_stg1_0 (funext fun a => by fin_cases a <;> rfl) _ _
  iintro H Hk
  iapply (wp_load 𝒱₀ (c : Thread nD τ) none Set.univ (m := bM) (r := wholeR.toLoadRect) (Finset.subset_univ _)) $$ H
  iintro H
  rw [h]
  iapply Hk; iexact H

/-! ## Multiply and send -/

/-- Storing the product of band `k`. -/
theorem step_storeP (k : Fin 6) (f : Slab F) {hx hm} {post : α → sProp 𝕄} {next : PUnit → Prog (TpuEff nD τ sig (Elt F) Λ₀ .tc) α} :
    sPts c k fullShare f ⊢ iprop((sPts c k fullShare (part m c) -∗ runs c (next ⟨⟩) post)
      -∗ runs c (.op (.store sM (chunkR k) (k0_pay2 (blkB m c) (rowsOf (blkA m c) k)) Finset.univ hx hm) next) post) :=
  step_storeS c k f (part m c) _ (partialOf_chunk (blkA m c) (blkB m c) k).symm

/-- Chunk `k` of the product: read the band, multiply, store, send. -/
theorem phase_send (k : Fin 6) (n : Dev nD) (hn : n = peer c) {hl hl' hx hm}
    {hsc : (rChunk k : Memref sig (Dev.tc n : Thread nD τ).2.kind .vmem S128x768 .bf16).view.ref.isScScratch = false}
    {hsrc : (sChunk k).view.WordExact} {hdst : (rChunk k).view.WordExact}
    {hsem : DmaTarget.Typed .vmem (.dma (gotS k)) (.remote (Dev.tc n : Thread nD τ) (rChunk k) (.dma (sentS k)) hsc)}
    {post : α → sProp 𝕄} {next : PUnit → Prog (TpuEff nD τ sig (Elt F) Λ₀ .tc) α} (f : Slab F) :
    iprop(records m K ∗ aPts m c ∗ sPts c k fullShare f ∗ (∃ f, rPts (F := F) (peer c) k f) ∗ owing c (due c k.val)
        ∗ dutyTok ER (cellAt c (sent k)) 0 () ∗ dutyTok ER (cellAt (peer c) (got k)) 0 ())
      ⊢ iprop(((aPts m c ∗ cred (tallyAt (cellAt c (sent k)) () N) ∗ sPts c k fullShare.right (part m c) ∗ owing c (due c (k.val + 1))) -∗ runs c (next ⟨⟩) post)
        -∗ runs c (.op (.load aM (rowsR k).toLoadRect hl) fun v => .op (.load sM (chunkR k).toLoadRect hl') fun _ =>
            .op (.store sM (chunkR k) (k0_pay2 (blkB m c) v) Finset.univ hx hm) fun _ =>
            .op (.enqueueDma (sChunk k) (.remote (Dev.tc n : Thread nD τ) (rChunk k) (.dma (sentS k)) hsc) (.dma (gotS k)) hsrc hdst hsem) next) post) := by
  iintro ⟨#HR, Ha, Hs, Hr, HO, Ht1, Ht2⟩ Hk
  iapply (step_loadA m c k) $$ Ha; iintro Ha
  iapply (step_loadS c k fullShare f) $$ Hs; iintro Hs
  iapply (step_storeP m c k f) $$ Hs; iintro Hs
  iapply (step_send m K c k n hn) $$ [Hs Hr HO Ht1 Ht2]
  · isplitr; · iexact HR
    isplitl [Hs]; · iexact Hs
    isplitl [Hr]; · iexact Hr
    isplitl [HO]; · iexact HO
    isplitl [Ht1] <;> iassumption
  iintro ⟨Hc, Hh, HO⟩
  iapply Hk
  isplitl [Ha]; · iexact Ha
  isplitl [Hc]; · iexact Hc
  isplitl [Hh] <;> iassumption

/-! ## Receive and add -/

/-- Storing the sum of the chunks `k`. -/
theorem step_storeSum (k : Fin 6) (f : Vec F S768x768 .f32) {hx hm} {post : α → sProp 𝕄} {next : PUnit → Prog (TpuEff nD τ sig (Elt F) Λ₀ .tc) α} :
    oPts c k f ⊢ iprop((oPts c k (outAt m c) -∗ runs c (next ⟨⟩) post)
      -∗ runs c (.op (.store oM (bandR k) (k0_pay9 (chunkOf (part m c) k) (chunkOf (part m (peer c)) k)) Finset.univ hx hm) next) post) :=
  step_storeO c k f (outAt m c) _ (sumOf_band (part m c) (part m (peer c)) k)

/-- Band `k` of the result: wait for the other device's chunk, add this one's, store. -/
theorem phase_add (k : Fin 6) {hl₁ hl₂ hl₃ hx hm} {hs : (sChunk k).view.WordExact} {hd : (rChunk k).view.WordExact}
    {post : α → sProp 𝕄} {next : PUnit → Prog (TpuEff nD τ sig (Elt F) Λ₀ .tc) α} (f : Vec F S768x768 .f32) :
    iprop(records m K ∗ cred (tallyAt (cellAt c (got k)) () N) ∗ owing c 0 ∗ atPos ER (cellAt c (got k)) 0 ∅ 0
        ∗ sPts c k fullShare.right (part m c) ∗ oPts c k f)
      ⊢ iprop(((owing c 0 ∗ semVal (cellAt c (got k)) 0 ∗ rPts c k (part m (peer c)) ∗ sPts c k fullShare.right (part m c) ∗ oPts c k (outAt m c))
            -∗ runs c (next ⟨⟩) post)
        -∗ runs c (.op (.waitDma2 (p := .tc) (gotS k) (sChunk k) (rChunk k) hs hd) fun _ =>
            .op (.load sM (chunkR k).toLoadRect hl₁) fun u => .op (.load rM (chunkR k).toLoadRect hl₂) fun v =>
            .op (.load oM (bandR k).toLoadRect hl₃) fun _ =>
            .op (.store oM (bandR k) (k0_pay9 u v) Finset.univ hx hm) next) post) := by
  iintro ⟨#HR, Hc, HO, Hat, Hs, Ho⟩ Hk
  iapply (step_got m K c k) $$ [Hc HO Hat]
  · isplitr; · iexact HR
    isplitl [Hc]; · iexact Hc
    isplitl [HO] <;> iassumption
  iintro ⟨HO, Hz, Hr⟩
  iapply (step_loadS c k fullShare.right (part m c)) $$ Hs; iintro Hs
  iapply (step_loadR c k (part m (peer c))) $$ Hr; iintro Hr
  iapply (step_loadO c k f) $$ Ho; iintro Ho
  iapply (step_storeSum m c k f) $$ Ho; iintro Ho
  iapply Hk
  isplitl [HO]; · iexact HO
  isplitl [Hz]; · iexact Hz
  isplitl [Hr]; · iexact Hr
  isplitl [Hs] <;> iassumption

/-! ## The payloads as printed are the same few functions -/

section Payloads
variable (b : Vec F S384x768 .f32) (a : Vec F S128x384 .f32) (u v : Vec F S1x128x768 .bf16)

theorem pay3_eq : k0_pay3 (k0_pay1 b) a = k0_pay2 b a := rfl
theorem pay5_eq : k0_pay5 (k0_pay4 (k0_pay1 b) a) = k0_pay2 b a := rfl
theorem pay6_eq : k0_pay6 (k0_pay1 b) a = k0_pay2 b a := rfl
theorem pay7_eq : k0_pay7 (k0_pay1 b) a = k0_pay2 b a := rfl
theorem pay8_eq : k0_pay8 (k0_pay1 b) a = k0_pay2 b a := rfl
theorem pay10_eq : k0_pay10 u v = k0_pay9 u v := rfl
theorem pay11_eq : k0_pay11 u v = k0_pay9 u v := rfl
theorem pay12_eq : k0_pay12 u v = k0_pay9 u v := rfl
theorem pay13_eq : k0_pay13 u v = k0_pay9 u v := rfl
theorem pay14_eq : k0_pay14 u v = k0_pay9 u v := rfl

end Payloads

/-! ## Families written out -/

/-! The six numbers of the chunks. -/

abbrev i0 : Fin 6 := ⟨0, by decide⟩
abbrev i1 : Fin 6 := ⟨1, by decide⟩
abbrev i2 : Fin 6 := ⟨2, by decide⟩
abbrev i3 : Fin 6 := ⟨3, by decide⟩
abbrev i4 : Fin 6 := ⟨4, by decide⟩
abbrev i5 : Fin 6 := ⟨5, by decide⟩

/-- Six conjuncts. -/
theorem bigSep_six (Φ : Fin 6 → sProp 𝕄) :
    bigSep Finset.univ Φ = iprop(Φ i0 ∗ Φ i1 ∗ Φ i2 ∗ Φ i3 ∗ Φ i4 ∗ Φ i5) :=
  bigSep_univ_eq_bigSepL [i0, i1, i2, i3, i4, i5] (by decide) (by decide) Φ

/-- A conjunct for each of the thirteen semaphores. -/
theorem bigSep_cells (Φ : Cell → sProp 𝕄) :
    bigSep Finset.univ Φ = iprop(Φ bar ∗ (bigSep Finset.univ fun k : Fin 6 => Φ (sent k)) ∗ bigSep Finset.univ fun k : Fin 6 => Φ (got k)) := by
  rw [bigSep_univ_sum, bigSep_univ_sum, bigSep_univ_eq_bigSepL [()] (by decide) (by decide), bigSepL_singleton]
  rfl

end Cert.Exchange

end
-- ==== Proof.Body.lean ====
module

public import proofs.«01_k».proof.Proof.Phases

/-! # The body -/

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-- The number by which the kernel addresses the other device of the row. -/
theorem dev_eq {n : ℕ} (hn : n < nD) (h : n = 2 * (c.val / 2) + 1 - c.val % 2) : (⟨n, hn⟩ : Dev nD) = peer c :=
  Fin.ext (by show n = 2 * (c.val / 2) + (1 - c.val % 2); omega)

set_option maxHeartbeats 1600000 in
/-- From what it starts with, the body runs to its end: both scratch buffers hold the two partial products, the result
    their sum, the inputs what they held, every semaphore is back at zero and nothing is owed. -/
theorem run_body (post : PUnit → sProp 𝕄) (f g : Slab F) (h : Vec F S768x768 .f32) :
    iprop(records m K ∗ linear c ∗ credits c ∗ levAts L lv ∗ owing c (owed₀ c)
      ∗ (bigSep Finset.univ fun k : Fin 6 => sPts c k fullShare f) ∗ (bigSep Finset.univ fun k : Fin 6 => rPts c k g)
      ∗ (bigSep Finset.univ fun k : Fin 6 => oPts c k h) ∗ aPts m c ∗ bPts m c)
    ⊢ iprop((Φ₁ m c ∗ owing c 0 ∗ (bigSep Finset.univ fun k : Fin 6 => oPts c k (outAt m c)) ∗ aPts m c ∗ bPts m c -∗ post ⟨⟩)
      -∗ runs c (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _)
          (Memref.whole cc0_scratch1) (Memref.isWhole_whole _) cc0_scratch2 cc0_scratch3) post) := by
  simp only [cc0_body_eq_skeleton]; unfold cc0_body_skel
  simp only [k0_part10_eq_skeleton]; unfold k0_part10_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId,
    pay3_eq, pay5_eq, pay6_eq, pay7_eq, pay8_eq, pay10_eq, pay11_eq, pay12_eq, pay13_eq, pay14_eq]
  unfold linear payToks credits
  simp only [bigSep_cells, bigSep_six]
  iintro ⟨#HR, ⟨⟨HaB, ⟨HaS0, HaS1, HaS2, HaS3, HaS4, HaS5⟩, ⟨HaG0, HaG1, HaG2, HaG3, HaG4, HaG5⟩⟩, HtB, ⟨HtS0, HtS1, HtS2, HtS3, HtS4, HtS5⟩, ⟨HtG0, HtG1, HtG2, HtG3, HtG4, HtG5⟩⟩, ⟨HcB, ⟨HcG0, HcG1, HcG2, HcG3, HcG4, HcG5⟩⟩, #Hlev, HO,
    ⟨Hs0, Hs1, Hs2, Hs3, Hs4, Hs5⟩, ⟨Hr0, Hr1, Hr2, Hr3, Hr4, Hr5⟩, ⟨Ho0, Ho1, Ho2, Ho3, Ho4, Ho5⟩, Ha, Hb⟩ Hk
  -- the signal
  iapply (step_signal m K c _ (dev_eq c _ (k0_dev1_eq c))) $$ [HO HtB Hr0 Hr1 Hr2 Hr3 Hr4 Hr5]
  · isplitr; · iexact HR
    isplitl [HO]; · iexact HO
    isplitl [HtB]; · iexact HtB
    rw [bigSep_six]
    isplitl [Hr0]; · iexists g; iexact Hr0
    isplitl [Hr1]; · iexists g; iexact Hr1
    isplitl [Hr2]; · iexists g; iexact Hr2
    isplitl [Hr3]; · iexists g; iexact Hr3
    isplitl [Hr4]; · iexists g; iexact Hr4
    iexists g; iexact Hr5
  iintro HO
  -- the first chunk multiplied
  iapply (step_loadB m c) $$ Hb; iintro Hb
  iapply (step_loadA m c i0) $$ Ha; iintro Ha
  iapply (step_loadS c i0 fullShare f) $$ Hs0; iintro Hs0
  iapply (step_storeP m c i0 f) $$ Hs0; iintro Hs0
  -- the barrier
  iapply (step_barrier m K c) $$ [HcB HO HaB]
  · isplitr; · iexact HR
    isplitl [HcB]; · iexact HcB
    isplitl [HO]; · iexact HO
    isplitr; · iexact Hlev
    iexact HaB
  iintro ⟨HO, HzB, Hr⟩
  ihave Hr := (Entails.of_eq (bigSep_six _)) $$ Hr
  icases Hr with ⟨Hr0, Hr1, Hr2, Hr3, Hr4, Hr5⟩
  -- the first chunk sent, the others multiplied and sent
  iapply (step_send m K c i0 _ (dev_eq c _ (k0_dev2_eq c))) $$ [Hs0 Hr0 HO HtS0 HtG0]
  · isplitr; · iexact HR
    isplitl [Hs0]; · iexact Hs0
    isplitl [Hr0]; · iexact Hr0
    isplitl [HO]; · iexact HO
    isplitl [HtS0] <;> iassumption
  iintro ⟨HcS0, Hs0, HO⟩
  iapply (phase_send m K c i1 _ (dev_eq c _ (k0_dev3_eq c)) f) $$ [Ha Hs1 Hr1 HO HtS1 HtG1]
  · isplitr; · iexact HR
    isplitl [Ha]; · iexact Ha
    isplitl [Hs1]; · iexact Hs1
    isplitl [Hr1]; · iexact Hr1
    isplitl [HO]; · iexact HO
    isplitl [HtS1] <;> iassumption
  iintro ⟨Ha, HcS1, Hs1, HO⟩
  iapply (phase_send m K c i2 _ (dev_eq c _ (k0_dev4_eq c)) f) $$ [Ha Hs2 Hr2 HO HtS2 HtG2]
  · isplitr; · iexact HR
    isplitl [Ha]; · iexact Ha
    isplitl [Hs2]; · iexact Hs2
    isplitl [Hr2]; · iexact Hr2
    isplitl [HO]; · iexact HO
    isplitl [HtS2] <;> iassumption
  iintro ⟨Ha, HcS2, Hs2, HO⟩
  iapply (phase_send m K c i3 _ (dev_eq c _ (k0_dev5_eq c)) f) $$ [Ha Hs3 Hr3 HO HtS3 HtG3]
  · isplitr; · iexact HR
    isplitl [Ha]; · iexact Ha
    isplitl [Hs3]; · iexact Hs3
    isplitl [Hr3]; · iexact Hr3
    isplitl [HO]; · iexact HO
    isplitl [HtS3] <;> iassumption
  iintro ⟨Ha, HcS3, Hs3, HO⟩
  iapply (phase_send m K c i4 _ (dev_eq c _ (k0_dev6_eq c)) f) $$ [Ha Hs4 Hr4 HO HtS4 HtG4]
  · isplitr; · iexact HR
    isplitl [Ha]; · iexact Ha
    isplitl [Hs4]; · iexact Hs4
    isplitl [Hr4]; · iexact Hr4
    isplitl [HO]; · iexact HO
    isplitl [HtS4] <;> iassumption
  iintro ⟨Ha, HcS4, Hs4, HO⟩
  iapply (phase_send m K c i5 _ (dev_eq c _ (k0_dev7_eq c)) f) $$ [Ha Hs5 Hr5 HO HtS5 HtG5]
  · isplitr; · iexact HR
    isplitl [Ha]; · iexact Ha
    isplitl [Hs5]; · iexact Hs5
    isplitl [Hr5]; · iexact Hr5
    isplitl [HO]; · iexact HO
    isplitl [HtS5] <;> iassumption
  iintro ⟨Ha, HcS5, Hs5, HO⟩
  ihave HO := (Entails.of_eq (congrArg (owing (F := F) c) (due_six c))) $$ HO
  -- the arrivals, each added as it comes
  iapply (phase_add m K c i0 h) $$ [HcG0 HO HaG0 Hs0 Ho0]
  · isplitr; · iexact HR
    isplitl [HcG0]; · iexact HcG0
    isplitl [HO]; · iexact HO
    isplitl [HaG0]; · iexact HaG0
    isplitl [Hs0] <;> iassumption
  iintro ⟨HO, HzG0, Hr0, Hs0, Ho0⟩
  iapply (phase_add m K c i1 h) $$ [HcG1 HO HaG1 Hs1 Ho1]
  · isplitr; · iexact HR
    isplitl [HcG1]; · iexact HcG1
    isplitl [HO]; · iexact HO
    isplitl [HaG1]; · iexact HaG1
    isplitl [Hs1] <;> iassumption
  iintro ⟨HO, HzG1, Hr1, Hs1, Ho1⟩
  iapply (phase_add m K c i2 h) $$ [HcG2 HO HaG2 Hs2 Ho2]
  · isplitr; · iexact HR
    isplitl [HcG2]; · iexact HcG2
    isplitl [HO]; · iexact HO
    isplitl [HaG2]; · iexact HaG2
    isplitl [Hs2] <;> iassumption
  iintro ⟨HO, HzG2, Hr2, Hs2, Ho2⟩
  iapply (phase_add m K c i3 h) $$ [HcG3 HO HaG3 Hs3 Ho3]
  · isplitr; · iexact HR
    isplitl [HcG3]; · iexact HcG3
    isplitl [HO]; · iexact HO
    isplitl [HaG3]; · iexact HaG3
    isplitl [Hs3] <;> iassumption
  iintro ⟨HO, HzG3, Hr3, Hs3, Ho3⟩
  iapply (phase_add m K c i4 h) $$ [HcG4 HO HaG4 Hs4 Ho4]
  · isplitr; · iexact HR
    isplitl [HcG4]; · iexact HcG4
    isplitl [HO]; · iexact HO
    isplitl [HaG4]; · iexact HaG4
    isplitl [Hs4] <;> iassumption
  iintro ⟨HO, HzG4, Hr4, Hs4, Ho4⟩
  iapply (phase_add m K c i5 h) $$ [HcG5 HO HaG5 Hs5 Ho5]
  · isplitr; · iexact HR
    isplitl [HcG5]; · iexact HcG5
    isplitl [HO]; · iexact HO
    isplitl [HaG5]; · iexact HaG5
    isplitl [Hs5] <;> iassumption
  iintro ⟨HO, HzG5, Hr5, Hs5, Ho5⟩
  -- the departures
  iapply (step_sent m K c i0) $$ [HcS0 HO HaS0 Hs0]
  · isplitr; · iexact HR
    isplitl [HcS0]; · iexact HcS0
    isplitl [HO]; · iexact HO
    isplitl [HaS0] <;> iassumption
  iintro ⟨HO, HzS0, Hs0⟩
  iapply (step_sent m K c i1) $$ [HcS1 HO HaS1 Hs1]
  · isplitr; · iexact HR
    isplitl [HcS1]; · iexact HcS1
    isplitl [HO]; · iexact HO
    isplitl [HaS1] <;> iassumption
  iintro ⟨HO, HzS1, Hs1⟩
  iapply (step_sent m K c i2) $$ [HcS2 HO HaS2 Hs2]
  · isplitr; · iexact HR
    isplitl [HcS2]; · iexact HcS2
    isplitl [HO]; · iexact HO
    isplitl [HaS2] <;> iassumption
  iintro ⟨HO, HzS2, Hs2⟩
  iapply (step_sent m K c i3) $$ [HcS3 HO HaS3 Hs3]
  · isplitr; · iexact HR
    isplitl [HcS3]; · iexact HcS3
    isplitl [HO]; · iexact HO
    isplitl [HaS3] <;> iassumption
  iintro ⟨HO, HzS3, Hs3⟩
  iapply (step_sent m K c i4) $$ [HcS4 HO HaS4 Hs4]
  · isplitr; · iexact HR
    isplitl [HcS4]; · iexact HcS4
    isplitl [HO]; · iexact HO
    isplitl [HaS4] <;> iassumption
  iintro ⟨HO, HzS4, Hs4⟩
  iapply (step_sent m K c i5) $$ [HcS5 HO HaS5 Hs5]
  · isplitr; · iexact HR
    isplitl [HcS5]; · iexact HcS5
    isplitl [HO]; · iexact HO
    isplitl [HaS5] <;> iassumption
  iintro ⟨HO, HzS5, Hs5⟩
  unfold runs; rw [wp_ret]; imodintro
  iapply Hk
  unfold Φ₁
  simp only [bigSep_cells, bigSep_six]
  iframe

/-! ## The body as the pipeline asks for it -/

/-- The result's buffer is its six bands. -/
theorem bands_eq (f : Vec F S768x768 .f32) :
    (((c : Thread nD τ).loc cc0_stg2_0) ↦{fullShare} f : sProp 𝕄) = bigSep Finset.univ fun k : Fin 6 => oPts c k f := by
  unfold oPts
  exact Ring.pointsTo_blocks (ℓ := (c : Thread nD τ).loc cc0_stg2_0) (fun k : Fin 6 => (bandR k).set) band_disjoint band_cover f
/-- The send buffer is its six chunks. -/
theorem schunks_eq (f : Slab F) :
    (((c : Thread nD τ).loc cc0_scratch0) ↦{fullShare} f : sProp 𝕄) = bigSep Finset.univ fun k : Fin 6 => sPts c k fullShare f := by
  unfold sPts
  exact Ring.pointsTo_blocks (ℓ := (c : Thread nD τ).loc cc0_scratch0) (fun k : Fin 6 => (chunkR k).set) chunk_disjoint chunk_cover f
/-- The receive buffer is its six chunks. -/
theorem rchunks_eq (f : Slab F) :
    (((c : Thread nD τ).loc cc0_scratch1) ↦{fullShare} f : sProp 𝕄) = bigSep Finset.univ fun k : Fin 6 => rPts c k f := by
  unfold rPts
  exact Ring.pointsTo_blocks (ℓ := (c : Thread nD τ).loc cc0_scratch1) (fun k : Fin 6 => (chunkR k).set) chunk_disjoint chunk_cover f

/-- The kernel runs at one point, its only one. -/
theorem only_point (t : Fin cfg0.N) : t = t0_0 := fin_N0 t

/-- The left factor's window is fetched at the point. -/
theorem fetchA (t : Fin cfg0.N) : (cfg0.win (0 : Fin 3)).fetch t = true := by rw [only_point t]; rfl
/-- So is the right factor's. -/
theorem fetchB (t : Fin cfg0.N) : (cfg0.win (1 : Fin 3)).fetch t = true := by rw [only_point t]; rfl

/-- A whole buffer owned at contents `X`. -/
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer at contents `X`. -/
abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the pipeline hands the body. -/
def bodyPre : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

/-- What it wants back. -/
def bodyPost : sProp 𝕄 :=
  iprop(Φ₁ m c ∗ (dats m 0 c).owesAt () t0_0.succ ∗ stg c cc0_stg0_0 (blkA m c) ∗ stg c cc0_stg1_0 (blkB m c)
    ∗ stg c cc0_stg2_0 (outAt m c))

/-- From what the pipeline hands it, the body gives what the pipeline wants. -/
theorem body_runs :
    bodyPre m c ⊢ runs c (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _)
          (Memref.whole cc0_scratch1) (Memref.isWhole_whole _) cc0_scratch2 cc0_scratch3) (fun _ => bodyPost m c) := by
  unfold bodyPre Φ₀ start
  iintro ⟨⟨⟨⟨%K, #HR, Hlin⟩, Hcr, #Hlev⟩, ⟨%f, Hs⟩, ⟨%g, Hr⟩⟩, Ho, ⟨%d0, %g0, %hg0, Ha⟩, ⟨%d1, %g1, %hg1, Hb⟩, ⟨%d2, %h, %hg2, Hout⟩⟩
  have ha : g0 = blkA m c := by rw [hg0]; unfold Dat.before; rw [if_pos (fetchA t0_0)]; rfl
  have hb : g1 = blkB m c := by rw [hg1]; unfold Dat.before; rw [if_pos (fetchB t0_0)]; rfl
  subst ha; subst hb
  unfold Dat.owesAt Pipeline.owesWithin
  icases Ho with ⟨%W, %hW, HO⟩
  rw [show (dats m 0 c).owed t0_0.castSucc = owed₀ c from rfl]
  ihave Hout := (Entails.of_eq (bands_eq c h)) $$ Hout
  iapply (run_body m K c (fun _ => bodyPost m c) f g h) $$ [Hlin Hcr HO Hs Hr Hout Ha Hb]
  · isplitr; · iexact HR
    isplitl [Hlin]; · iexact Hlin
    isplitl [Hcr]; · iexact Hcr
    isplitr; · iexact Hlev
    isplitl [HO]; · unfold owing; iexists W; iexact HO
    isplitl [Hs]; · iexact Hs
    isplitl [Hr]; · iexact Hr
    isplitl [Hout]; · iexact Hout
    isplitl [Ha]; · unfold aPts; iexact Ha
    unfold bPts; iexact Hb
  iintro ⟨HΦ, HO, Hout, Ha, Hb⟩
  unfold bodyPost Dat.owesAt Pipeline.owesWithin owing aPts bPts
  icases HO with ⟨%W', HO⟩
  rw [show (dats m 0 c).owed t0_0.succ = 0 from rfl]
  isplitl [HΦ]; · iexact HΦ
  isplitl [HO]
  · iexists W'
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists (outAt m c); isplitr; · (ipureintro; rfl)
  iapply (Entails.of_eq (bands_eq c (outAt m c)).symm); iexact Hout

/-- The pipeline's obligation on device `c`. -/
theorem body_obligation : BodyObligation (dats (F := F) m 0 c) (defs₀ (F := F)) 𝒱₀ () Set.univ := fun t => by
  rw [only_point t]
  rw [show ∀ Φ : Fin cfg0.W → sProp 𝕄, bigSep Finset.univ Φ = iprop(Φ (0 : Fin 3) ∗ Φ (1 : Fin 3) ∗ Φ (2 : Fin 3)) from bigSep_W0,
    show ∀ Φ : Fin cfg0.W → sProp 𝕄, bigSep Finset.univ Φ = iprop(Φ (0 : Fin 3) ∗ Φ (1 : Fin 3) ∗ Φ (2 : Fin 3)) from bigSep_W0]
  simp only [owns_whole_eq]
  exact body_runs m c

end Cert.Exchange

end
-- ==== Proof.Launch.lean ====
module

public import proofs.«01_k».proof.Proof.Body
public import Idealize.ShloMosaic.Lib.Pipeline.CollectiveSegs

/-! # The launch

From the machine as launched to the body of every device, and from the bodies' ends to the run's: the semaphores of all
devices get their invariants at once, the rights to raise them are dealt to the devices that spend them, and what every
device is owed becomes the promise its waits rest on. -/

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state the run starts from: memory `m`, every counter at zero, registers `ρ`. -/
def s₀ : MemSt nD τ sig (Elt F) := ⟨m, fun _ => 0, ρ⟩

/-- The kernel's own twelve semaphores are scoped, different, and none of the pipeline's. -/
theorem ownSemFacts : Pipeline.OwnSemFacts cfg0.spec ownSem := by decide

/-- Every window is held at the full share. -/
theorem share_eq (c : Dev nD) (w : Fin cfg0.W) : (dats m 0 c).share w = fullShare := by unfold Dat.share; split <;> rfl

/-! ## All semaphores of all devices -/

/-- Two semaphores are one only if device and name agree. -/
theorem cellAt_eq {a b : Dev nD} {i j : Cell} : cellAt a i = cellAt b j ↔ a = b ∧ i = j := by
  constructor
  · intro h
    have h1 : a = b := congrArg (fun g : GSem nD τ sig => g.1.1) h
    exact ⟨h1, semOf_injective (congrArg Prod.snd h)⟩
  · rintro ⟨rfl, rfl⟩; rfl

/-- A device and a name, as a semaphore. -/
def toCell : Dev nD × Cell ↪ GSem nD τ sig :=
  ⟨fun x => cellAt x.1 x.2, fun x y h => Prod.ext (cellAt_eq.1 h).1 (cellAt_eq.1 h).2⟩
/-- A device and a name, as the right to raise that semaphore. -/
def toTok : Dev nD × Cell ↪ GSem nD τ sig × ℕ × Unit :=
  ⟨fun x => (cellAt x.1 x.2, 0, ()), fun x y h => toCell.injective (congrArg Prod.fst h)⟩

/-- The ghost state the run starts from. -/
def u₀ : UU :=
  (initOf (Pipeline.cells cfgs cellOf_inj) (Pipeline.launchToks cfgs cellOf_inj),
    initOf (Finset.univ.map toCell) (Finset.univ.map toTok))

/-- The rights to raise device `c`'s own semaphores. -/
def toks (c : Dev nD) : sProp 𝕄 := bigSep Finset.univ fun i : Cell => dutyTok ER (cellAt c i) 0 ()

/-- What the launch deals device `c`. -/
def G (c : Dev nD) : sProp 𝕄 :=
  iprop((bigSep Finset.univ fun i : Cell => roundState ER (sched m) (cellAt c i) 0)
    ∗ (bigSep Finset.univ fun i : Cell => atPos ER (cellAt c i) 0 ∅ 0)
    ∗ (bigSep Finset.univ fun i : Cell => reached ER (cellAt c i) 0) ∗ toks c)

/-- What device `c` has of it once all have been brought together. -/
def G' (c : Dev nD) : sProp 𝕄 := iprop(∃ K, records m K ∗ linear c)

/-- The exchange's ghost state, dealt to the devices. -/
theorem deal : BI.own (ER (initOf (Finset.univ.map toCell) (Finset.univ.map toTok))) ⊢ (|==> bigSep Finset.univ (G m) : sProp 𝕄) := by
  have hX (Φ : GSem nD τ sig → sProp 𝕄) : bigSep (Finset.univ.map toCell) Φ
      = bigSep Finset.univ fun c : Dev nD => bigSep Finset.univ fun i : Cell => Φ (cellAt c i) := by
    rw [bigSep_map, bigSep_univ_prod]; rfl
  have hT : bigSep (Finset.univ.map toTok) (fun x => (dutyTok ER x.1 x.2.1 x.2.2 : sProp 𝕄)) = bigSep Finset.univ fun c : Dev nD => toks c := by
    rw [bigSep_map, bigSep_univ_prod]; rfl
  iintro HX
  imod (Rounds.fund ER (sched m) (Finset.univ.map toCell) (Finset.univ.map toTok)) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-- The barrier semaphore is the launch's one semaphore that outlives the kernel. -/
theorem unscopedSems0_eq (c : Dev nD) : (unscopedSems0 c : sProp 𝕄) = semVal (cellAt c bar) 0 := by
  unfold unscopedSems0; rw [bigSep_eq_bigSepL_of_eq [SemLoc.reg barS] (by decide) (by decide)]; rfl

/-- The kernel's own semaphores and the barrier are the thirteen. -/
theorem sems_eq (c : Dev nD) :
    (bigSep Finset.univ fun i : Cell => semVal (cellAt c i) 0 : sProp 𝕄)
      = iprop(unscopedSems0 c ∗ Pipeline.ownSems0 (Ix := Unit) (Name := ℕ) (U := UU) (Lvl := ℕ) (Val := Elt F) (τ := τ) ownSem c) := by
  rw [bigSep_univ_sum, bigSep_univ_eq_bigSepL [()] (by decide) (by decide), bigSepL_singleton, unscopedSems0_eq]
  rfl

/-- Every semaphore of device `c` gets its invariant. -/
theorem invariants (c : Dev nD) :
    iprop(Pipeline.ownSems0 (Ix := Unit) (Name := ℕ) (U := UU) (Lvl := ℕ) (Val := Elt F) (τ := τ) ownSem c ∗ unscopedSems0 c ∗ G m c)
      ⊢ |={Set.univ}=> iprop((bigSep Finset.univ fun i : Cell => iprop(∃ κ : ℕ, cellInv ER (sched m) κ (cellAt c i)))
          ∗ (bigSep Finset.univ fun i : Cell => atPos ER (cellAt c i) 0 ∅ 0)
          ∗ (bigSep Finset.univ fun i : Cell => reached ER (cellAt c i) 0) ∗ toks c) := by
  have h : iprop((bigSep Finset.univ fun i : Cell => semVal (cellAt c i) 0) ∗ bigSep Finset.univ fun i : Cell => roundState ER (sched m) (cellAt c i) 0)
      ⊢ (|={Set.univ}=> bigSep Finset.univ fun i : Cell => iprop(∃ κ : ℕ, cellInv ER (sched m) κ (cellAt c i)) : sProp 𝕄) := by
    rw [← bigSep_sep']
    exact (bigSep_mono fun i _ => (Rounds.body_intro ER (sched m) (cellAt c i)).trans inv_alloc).trans (bigSep_fupd _ _)
  unfold G
  iintro ⟨Hos, Hus, Hst, Hat, Hr, Htok⟩
  ihave Hv := (Entails.of_eq (sems_eq (F := F) c).symm) $$ [Hos Hus]
  · isplitl [Hus] <;> iassumption
  imod h $$ [Hv Hst] with Hinv
  · isplitl [Hv] <;> iassumption
  imodintro
  isplitl [Hinv]; · iexact Hinv
  isplitl [Hat]; · iexact Hat
  isplitl [Hr]; · iexact Hr
  iexact Htok

/-- The rights to raise change hands within every row: a barrier's and an arrival's go to the other device. -/
theorem toks_swap : (bigSep Finset.univ fun c : Dev nD => (toks c : sProp 𝕄)) ⊢ bigSep Finset.univ fun c : Dev nD => payToks c := by
  unfold toks payToks
  simp only [bigSep_cells]
  rw [bigSep_sep', bigSep_sep', bigSep_sep', bigSep_sep',
    bigSep_univ_equiv swapRow (fun c : Dev nD => (dutyTok ER (cellAt c bar) 0 () : sProp 𝕄)),
    bigSep_univ_equiv swapRow (fun c : Dev nD => (bigSep Finset.univ fun k : Fin 6 => dutyTok ER (cellAt c (got k)) 0 () : sProp 𝕄))]
  exact .rfl

/-- What is known to all goes to each. -/
theorem share_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What the devices have, brought together and dealt again. -/
theorem regroup :
    (bigSep Finset.univ fun c : Dev nD => iprop((bigSep Finset.univ fun i : Cell => iprop(∃ κ : ℕ, cellInv ER (sched m) κ (cellAt c i)))
          ∗ (bigSep Finset.univ fun i : Cell => atPos ER (cellAt c i) 0 ∅ 0)
          ∗ (bigSep Finset.univ fun i : Cell => reached ER (cellAt c i) 0) ∗ toks c) : sProp 𝕄)
      ⊢ bigSep Finset.univ (G' m) := by
  rw [bigSep_sep', bigSep_sep', bigSep_sep',
    ← bigSep_univ_prod (fun x : Dev nD × Cell => iprop(∃ κ : ℕ, cellInv ER (sched m) κ (cellAt x.1 x.2))),
    ← bigSep_univ_prod (fun x : Dev nD × Cell => (reached ER (cellAt x.1 x.2) 0 : sProp 𝕄))]
  iintro ⟨HI, Hat, #HR, Htok⟩
  ihave HK := (BI.bigSep_exists_pi Finset.univ (fun (x : Dev nD × Cell) (κ : ℕ) => (cellInv ER (sched m) κ (cellAt x.1 x.2) : sProp 𝕄))) $$ HI
  icases HK with ⟨%K, #HI⟩
  ihave Htk := (toks_swap (F := F)) $$ Htok
  iapply (share_known (R := records m K) (Φ := fun c : Dev nD => linear c) fun c _ => show _ ⊢ G' m c from by
    unfold G'; iintro H; iexists K; iexact H)
  isplitr
  · unfold records; isplitl; · iexact HI
    iexact HR
  · unfold linear
    rw [bigSep_sep']
    isplitl [Hat]; · iexact Hat
    iexact Htk

/-- The step all devices take together: from their semaphores at zero to what each starts from. -/
theorem together : (bigSep Finset.univ fun c => iprop(Pipeline.ownSems0 (Ix := Unit) (Name := ℕ) (U := UU) (Lvl := ℕ) (Val := Elt F) (τ := τ) ownSem c ∗ unscopedSems0 c ∗ G m c) : sProp 𝕄)
    ⊢ |={Set.univ}=> bigSep Finset.univ (G' m) :=
  ((bigSep_mono fun c _ => invariants m c).trans (bigSep_fupd _ _)).trans (BI.fupd_mono (regroup m))

/-! ## What every device is owed -/

/-- What the other device owes semaphore `i` of a device. -/
def promised : Cell → ℕ
  | .inl _ => 1
  | .inr (.inl _) => 0
  | .inr (.inr _) => N

/-- Device `d` owes a semaphore of device `c` if it is the other device of the row. -/
theorem owed_at (d c : Dev nD) (i : Cell) : owed₀ d (cellAt c i) () = if d = peer c then promised i else 0 := by
  have hp : c = peer d ↔ d = peer c := ⟨fun h => by rw [h, peer_peer], fun h => by rw [h, peer_peer]⟩
  have ht (j : Cell) (n : ℕ) : tallyAt (cellAt (peer d) j) () n (cellAt c i) () = if d = peer c ∧ i = j then n else 0 := by
    rw [tallyAt_apply]
    exact if_congr ⟨fun h => ⟨hp.1 (cellAt_eq.1 h.1).1, (cellAt_eq.1 h.1).2⟩, fun h => ⟨cellAt_eq.2 ⟨hp.2 h.1, h.2⟩, rfl⟩⟩ rfl rfl
  unfold owed₀ due
  rw [Pi.add_apply, Finsupp.add_apply, Finset.sum_apply, Finsupp.finset_sum_apply, Finset.sum_congr rfl fun k _ => ht (got k) N, ht]
  by_cases h : d = peer c
  · rcases i with ⟨⟩ | k | k <;> simp [h, promised]
  · simp [h]

/-- The promise that semaphore `i` of device `c` is raised. -/
theorem promise_at (c : Dev nD) (i : Cell) :
    tallyOn (cellAt c i) (launchCredit (Pipeline.owing owed₀) 0 (cellAt c i)) = (tallyAt (cellAt c i) () (promised i) : CellTallies nD τ sig Unit) := by
  unfold tallyAt; refine congrArg _ (Finsupp.ext fun u => ?_); cases u
  rw [Pipeline.launchCredit_owing, Finsupp.single_eq_same, Finset.sum_congr rfl fun d _ => owed_at d c i,
    Finset.sum_ite_eq' Finset.univ (peer c) fun _ => promised i, if_pos (Finset.mem_univ _)]

/-- What device `c` waits for will come. -/
theorem credits_intro (c : Dev nD) : (Pipeline.launchCred owed₀ c : sProp 𝕄) ⊢ credits c := by
  unfold Pipeline.launchCred credits
  refine (bigSep_subset (Finset.subset_univ (Finset.univ.map ⟨semOf, semOf_injective⟩))).trans ?_
  rw [bigSep_map]
  refine (Entails.of_eq (bigSep_congr (s := Finset.univ) (fun (i : Cell) _ => congrArg cred (promise_at c i)))).trans ?_
  rw [bigSep_cells]
  iintro ⟨Hb, -, Hg⟩
  isplitl [Hb]; · iexact Hb
  iexact Hg

/-! ## In and out of the body -/

/-- What device `c` starts from. -/
theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  iintro ⟨-, Hlev, Hcr, -, HG⟩
  ihave Hc := (credits_intro (F := F) c) $$ Hcr
  imodintro
  unfold start G'
  isplitl
  · isplitl [HG]; · iexact HG
    isplitl [Hc]; · iexact Hc
    iexact Hlev
  · iempintro

/-- The scratch buffers come in whole. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hf⟩, ⟨%g, Hg⟩⟩
  isplitl [Hs]; · iexact Hs
  isplitl [Hf]
  · iexists f; iapply (Entails.of_eq (schunks_eq c f)); iexact Hf
  iexists g; iapply (Entails.of_eq (rchunks_eq c g)); iexact Hg

/-- And they go out whole, with every semaphore at zero. -/
theorem phi1_exit (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = Φ₁ m c from rfl, scopedRest0_eq]
  unfold Φ₁
  rw [sems_eq]
  iintro ⟨Hs, Hr, Hb, Ho⟩
  isplitl [Hb]; · iexact Hb
  isplitl [Ho]; · iexact Ho
  isplitl [Hs]
  · iexists (part m c); iapply (Entails.of_eq (schunks_eq c (part m c)).symm); iexact Hs
  iexists (part m (peer c)); iapply (Entails.of_eq (rchunks_eq c (part m (peer c))).symm); iexact Hr

/-- The pipeline's own semaphores are none of the thirteen. -/
theorem stage_unnamed (w : Fin cfg0.W) (s : Fin (cfg0.spec w).nbuf) : nameOf (.dma ((cfg0.spec w).sem s)) = none := by
  rcases h : nameOf (.dma ((cfg0.spec w).sem s)) with _ | i
  · rfl
  · have h' := semOf_of_nameOf h
    rcases i with _ | j
    · cases h'
    · exact absurd h'.symm (ownSemFacts.disj j w s)

/-- The pipeline's waits may happen whatever the body still owes. -/
theorem waits (c : Dev nD) : (levAts L lv : sProp 𝕄) ⊢ Pipeline.cellsWaits cfgs (dats m) () 0 c :=
  Pipeline.cellsWaits_intro cfgs (dats m) () 0 c fun w s t =>
    mayWait_stage c _ (stage_unnamed w s) _ (by
      rcases t with ⟨_ | _, ht⟩
      · exact Or.inl rfl
      · exact Or.inr rfl)

/-! ## The run -/

/-- What a window's array holds after the run. -/
def final (c : Dev nD) (w : Fin cfg0.W) : Buf (Elt F) ((cfg0.win w).arr.view.loc (c : Thread nD τ)) := (dats m 0 c).arrAt w cfg0.N

/-- Every window's array, on every device, holds what it should. -/
def Final : PUnit × MemSt nD τ sig (Elt F) → Prop := fun r =>
  ∀ c : Dev nD, ∀ w : Fin cfg0.W, r.2.mem ((cfg0.win w).arr.view.loc (c : Thread nD τ)) = final m c w

set_option maxRecDepth 8000 in
/-- On the four devices, for any float values and from any memory with zero counters, every weakly fair execution
    terminates, and in every final state each device's inputs are unchanged, its result is the sum of the two partial
    products of its row, and every semaphore counter is zero. -/
theorem run_main : θ_run defs (onTc (τ := τ) (main (F := F))) (s₀ m ρ) (fun r => Final m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := together m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The left factor's array ends as it began. -/
theorem final_A (c : Dev nD) : final m c (0 : Fin 3) = m ((c : Thread nD τ).loc main_arg0) :=
  (dats (F := F) m 0 c).arrAt_in (0 : Fin 3) rfl _
/-- So does the right factor's. -/
theorem final_B (c : Dev nD) : final m c (1 : Fin 3) = m ((c : Thread nD τ).loc main_arg1) :=
  (dats (F := F) m 0 c).arrAt_in (1 : Fin 3) rfl _

end Cert.Exchange

end
-- ==== Proof.Value.lean ====
module

public import proofs.«01_k».proof.Proof.Launch
public import Idealize.ShloMosaic.Lib.MatmulPlain
public import Idealize.ShloMosaic.Lib.StackMember
public import Idealize.ShloMosaic.Lib.Layout
public import Idealize.ShloMosaic.Lib.Pipeline.Value

/-! # What the result is

Over the extended reals a partial product is a sum over the 384 columns a device holds, the result is the sum of the two
of a row, and the whole product is the sum over all 768 columns: the two halves together. -/

@[expose] public section

noncomputable section

namespace Cert.Exchange

open Cert.KernelIdeal Cert.KernelIdeal.Gen
open Idealize.ShloMosaic Idealize.ShloMosaic.TcCoe Idealize.ShloMosaic.ValueIdx
open Idealize.ShloMosaic.Pipeline (Dat Cfg Window)
open scoped BigOperators

section Arrays
variable {F : FTy → Type} [FloatOps F]
variable (m : (ℓ : Loc nD τ sig) → Buf (Elt F) ℓ) (c : Dev nD)

/-- The left factor's one block is the whole array; -/
theorem blkA_eq : blkA m c = m ((c : Thread nD τ).loc main_arg0) := by
  funext i
  refine congrArg (m ((c : Thread nD τ).loc main_arg0)) (funext fun a => Fin.ext ?_)
  show 0 * _ + 1 * (i a : ℕ) = (i a : ℕ)
  omega
/-- the right factor's too; -/
theorem blkB_eq : blkB m c = m ((c : Thread nD τ).loc main_arg1) := by
  funext i
  refine congrArg (m ((c : Thread nD τ).loc main_arg1)) (funext fun a => Fin.ext ?_)
  show 0 * _ + 1 * (i a : ℕ) = (i a : ℕ)
  omega
/-- and an index of the result's one block is that index of the array. -/
theorem outIdx_eq (t : Fin cfg0.N) (i : S768x768.Idx) : ((cfg0.win (2 : Fin 3)).blk t).view.emb i = i := by
  refine funext fun a => Fin.ext ?_
  show 0 * _ + 1 * (i a : ℕ) = (i a : ℕ)
  omega

/-- The result's array ends at the sum of the two partial products. -/
theorem final_out : final m c (2 : Fin 3) = outAt m c := by
  refine (dats (F := F) m 0 c).arrAt_eq_of_cover (2 : Fin 3) (outAt m c) (fun t _ => funext fun i => ?_)
    (fun i => ⟨t0_0, rfl, ?_⟩)
  · exact (congrArg (outAt m c) (outIdx_eq t i)).symm
  · have h := ((cfg0.win (2 : Fin 3)).blk t0_0).view.emb_mem_set i
    rw [outIdx_eq] at h
    exact h

end Arrays

/-! ## Over the extended reals -/

/-- The sum over the 384 columns a device holds. -/
def half (A : Vec Ideal S768x384 .f32) (B : Vec Ideal S384x768 .f32) (i j : Fin 768) : EReal :=
  ∑ l : Fin 384, A (ix2 i l) * B (ix2 l j)

/-- An element of a partial product's chunk is that sum. -/
theorem chunk_apply (A : Vec Ideal S768x384 .f32) (B : Vec Ideal S384x768 .f32) (i j : Fin 768) (k : Fin 6) (r : Fin 128)
    (hi : i.val = 128 * k.val + r.val) (x : S1x128x768.Idx) (h1 : x 1 = r) (h2 : x 2 = j) :
    k0_pay2 (F := Ideal) B (rowsOf A k) x = half A B i j := by
  unfold k0_pay2 k0_pay1
  simp only [shapeCast_self]
  refine (shapeCast_addUnit_apply ![128, 768] _ shapeCasts_S128x768_S1x128x768 x).trans ?_
  have hx : (fun a : Fin 2 => x a.succ) = ix2 r j := by
    funext a; fin_cases a
    · exact h1
    · exact h2
  refine (congrArg _ hx).trans ?_
  refine (Ideal.matmul_plain_apply (M := 128) (K := 384) (N := 768) (φ₁ := .bf16) (φ₂ := .bf16) none (rowsOf A k) B
    (constant S128x768 .f32 0x00000000#32) r j).trans ?_
  refine (congrArg (· + _) (Ideal.ofBits_zero_f32)).trans ((zero_add _).trans ?_)
  unfold half
  refine Finset.sum_congr rfl fun l _ => congrArg (· * _) ?_
  refine congrArg A (funext fun a => Fin.ext ?_)
  fin_cases a
  · show 128 * k.val + 1 * r.val = i.val; omega
  · show 0 + 1 * l.val = l.val; omega

/-- An element of the result is the sum of the two devices' sums. -/
theorem out_apply (m : (ℓ : Loc nD τ sig) → Buf (Elt Ideal) ℓ) (c : Dev nD) (i j : Fin 768) :
    outAt m c (ix2 i j) = half (blkA m c) (blkB m c) i j + half (blkA m (peer c)) (blkB m (peer c)) i j := by
  have hk : i.val / 128 < 6 := by have := i.isLt; omega
  have hr : i.val % 128 < 128 := Nat.mod_lt _ (by decide)
  have hc (d : Dev nD) : shapeCast S128x768 (chunkOf (part m d) ⟨i.val / 128, hk⟩) shapeCasts_S1x128x768_S128x768
      (ix2 (⟨i.val % 128, hr⟩ : Fin 128) j) = half (blkA m d) (blkB m d) i j := by
    refine (shapeCast_dropUnit_apply ![128, 768] _ shapeCasts_S1x128x768_S128x768 _).trans ?_
    unfold part
    rw [partialOf_chunk]
    exact chunk_apply _ _ i j ⟨i.val / 128, hk⟩ ⟨i.val % 128, hr⟩ (by show i.val = 128 * (i.val / 128) + i.val % 128; omega) _ rfl rfl
  rw [← hc c, ← hc (peer c)]
  unfold outAt sumOf k0_pay9
  show _ + _ = _ + _
  congr 1 <;> · refine congrArg _ (funext fun a => ?_); fin_cases a <;> rfl

/-! ## Against the whole product -/

/-- Row `i` of device `c`'s block of rows, as a row of the whole. -/
def rowOf (c : Dev nD) (i : Fin 768) : Fin 1536 :=
  ⟨768 * (c.val / 2) + i.val, by have h := c.isLt; change c.val < 4 at h; have := i.isLt; omega⟩
/-- Column `l` of half `y`, as a column of the whole. -/
def colOf (y : Fin 2) (l : Fin 384) : Fin 768 := ⟨384 * y.val + l.val, by have := y.isLt; have := l.isLt; omega⟩
/-- The half of the columns device `c` holds. -/
def sideOf (c : Dev nD) : Fin 2 := ⟨c.val % 2, Nat.mod_lt _ (by decide)⟩

/-- The two devices of a row hold the same rows; -/
theorem rowOf_peer (c : Dev nD) (i : Fin 768) : rowOf (peer c) i = rowOf c i := by
  refine Fin.ext ?_
  show 768 * ((2 * (c.val / 2) + (1 - c.val % 2)) / 2) + i.val = 768 * (c.val / 2) + i.val
  omega

/-- between them they hold both halves of the columns. -/
theorem sideOf_peer (c : Dev nD) : sideOf c = 0 ∧ sideOf (peer c) = 1 ∨ sideOf c = 1 ∧ sideOf (peer c) = 0 := by
  revert c; decide

variable (X : FVec Ideal ⟨2, ![1536, 768]⟩ .f32) (W : FVec Ideal ⟨2, ![768, 768]⟩ .f32)

/-- Device `c`'s block of the left factor. -/
abbrev cutX (c : Dev nD) : Vec Ideal S768x384 .f32 :=
  Layout.blockN ⟨2, ![768, 384]⟩ ⟨2, ![1536, 768]⟩ (Layout.meshBlock [2, 2] ![[0], [1]] c) X
/-- Device `c`'s block of the right factor. -/
abbrev cutW (c : Dev nD) : Vec Ideal S384x768 .f32 :=
  Layout.blockN ⟨2, ![384, 768]⟩ ⟨2, ![768, 768]⟩ (Layout.meshBlock [2, 2] ![[1], []] c) W

/-- The part of the whole product's element that half `y` of the columns gives. -/
def share (y : Fin 2) (r : Fin 1536) (j : Fin 768) : EReal := ∑ l : Fin 384, X (ix2 r (colOf y l)) * W (ix2 (colOf y l) j)

/-- An element of the left factor's block, in the whole. -/
theorem cutX_apply (c : Dev nD) (i : Fin 768) (l : Fin 384) : cutX X c (ix2 i l) = X (ix2 (rowOf c i) (colOf (sideOf c) l)) := by
  refine congrArg X (funext fun a => Fin.ext ?_)
  have hc := c.isLt; change c.val < 4 at hc
  fin_cases a
  · show (c.val / 2 % 2 * 1 + 0) * 768 + i.val = 768 * (c.val / 2) + i.val; omega
  · show (c.val / 1 % 2 * 1 + 0) * 384 + l.val = 384 * (c.val % 2) + l.val; omega
/-- An element of the right factor's block, in the whole. -/
theorem cutW_apply (c : Dev nD) (l : Fin 384) (j : Fin 768) : cutW W c (ix2 l j) = W (ix2 (colOf (sideOf c) l) j) := by
  refine congrArg W (funext fun a => Fin.ext ?_)
  fin_cases a
  · show (c.val / 1 % 2 * 1 + 0) * 384 + l.val = 384 * (c.val % 2) + l.val; omega
  · show 0 * 768 + j.val = j.val; omega

/-- What device `c` sums is its half's part. -/
theorem half_cut (c : Dev nD) (i j : Fin 768) : half (cutX X c) (cutW W c) i j = share X W (sideOf c) (rowOf c i) j :=
  Finset.sum_congr rfl fun l _ => by rw [cutX_apply, cutW_apply]

/-- The whole product. -/
abbrev product : FVec Ideal ⟨2, ![1536, 768]⟩ .f32 := Host.dotGeneral (DotDims.plain 1536 768 768) none X W

/-- The whole product is the two halves' parts together. -/
theorem product_apply (r : Fin 1536) (j : Fin 768) : product X W (ix2 r j) = share X W 0 r j + share X W 1 r j := by
  refine (StackMember.dotGeneral_plain_apply none X W r j).trans ?_
  refine (Fin.sum_univ_add (a := 384) (b := 384) fun l : Fin (384 + 384) => X (ix2 r (l : Fin 768)) * W (ix2 (l : Fin 768) j)).trans ?_
  unfold share
  have h0 (l : Fin 384) : (Fin.castAdd 384 l : Fin 768) = colOf 0 l := Fin.ext (by show l.val = 384 * 0 + l.val; omega)
  have h1 (l : Fin 384) : (Fin.natAdd 384 l : Fin 768) = colOf 1 l := Fin.ext (by show 384 + l.val = 384 * 1 + l.val; omega)
  exact congrArg₂ (· + ·) (Finset.sum_congr rfl fun l _ => by rw [h0 l]) (Finset.sum_congr rfl fun l _ => by rw [h1 l])

/-- From blocks of the two factors, device `c`'s result is its block of the whole product. -/
theorem out_eq (m : (ℓ : Loc nD τ sig) → Buf (Elt Ideal) ℓ)
    (hX : ∀ c : Dev nD, m ((c : Thread nD τ).loc main_arg0) = cutX X c)
    (hW : ∀ c : Dev nD, m ((c : Thread nD τ).loc main_arg1) = cutW W c) (c : Dev nD) :
    outAt m c = Layout.blockN ⟨2, ![768, 768]⟩ ⟨2, ![1536, 768]⟩ (Layout.meshBlock [2, 2] ![[0], []] c) (product X W) := by
  funext x
  obtain ⟨i, j, rfl⟩ : ∃ i j, x = ix2 i j := ⟨x 0, x 1, eq_ix2 x⟩
  have hb (v : FVec Ideal ⟨2, ![1536, 768]⟩ .f32) :
      (Layout.blockN ⟨2, ![768, 768]⟩ ⟨2, ![1536, 768]⟩ (Layout.meshBlock [2, 2] ![[0], []] c) v : Vec Ideal S768x768 .f32) (ix2 i j) = v (ix2 (rowOf c i) j) := by
    refine congrArg v (funext fun a => Fin.ext ?_)
    have hc := c.isLt; change c.val < 4 at hc
    fin_cases a
    · show (c.val / 2 % 2 * 1 + 0) * 768 + i.val = 768 * (c.val / 2) + i.val; omega
    · show 0 * 768 + j.val = j.val; omega
  rw [hb, product_apply, out_apply, blkA_eq, blkB_eq, blkA_eq, blkB_eq, hX, hW, hX, hW, half_cut, half_cut, rowOf_peer]
  rcases sideOf_peer c with ⟨h, h'⟩ | ⟨h, h'⟩
  · rw [h, h']
  · rw [h, h', add_comm]

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- For any float values the kernel terminates, its inputs end unchanged and every semaphore counter is zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run Cert.KernelIdeal.defs _ _).mono
    (fun _ h => ⟨fun c => ⟨(h.1 c (0 : Fin 3)).trans (Exchange.final_A m c), (h.1 c (1 : Fin 3)).trans (Exchange.final_B m c)⟩, h.2⟩)
    (Exchange.run_main m ρ)

/-- The two programs have the same text: their kernels' bodies agree at the only label there is. -/
theorem bodies_eq {F : FTy → Type} [FloatOps F] : Cert.Kernel.defs₀ (F := F) = Cert.KernelIdeal.defs₀ (F := F) := by
  unfold Cert.Kernel.defs₀ Cert.KernelIdeal.defs₀
  congr 1
  funext l a
  match l, a with
  | 0, (t, s) => rfl

/-- So their body tables agree, each adding the same pipeline. -/
theorem defs_eq {F : FTy → Type} [FloatOps F] : Cert.Kernel.defs (F := F) = Cert.KernelIdeal.defs (F := F) :=
  congrArg (Pipeline.defs (Cert.KernelIdeal.pcfgs (F := F))) bodies_eq

/-- The kernel does so on the machine's floats, run under the other program's name. -/
theorem frame_kernel : Cert.quiescent_Kernel := fun m ρ _ => by
  rw [defs_eq]
  exact frame_any (F := Bits) m ρ

/-- So it does over the extended reals. -/
theorem frame_ideal : Cert.quiescent_KernelIdeal := fun m ρ _ => frame_any (F := Ideal) m ρ

/-- The reference terminates, its inputs end unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From blocks of the same two factors, every device's result is its block of the reference's, the whole product. -/
theorem same_product : Cert.algebraic_KernelIdeal_ReferenceIdeal := fun m g m' g' _ hin =>
  ⟨Exchange.product (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨((h.1 c (2 : Fin 3)).trans (Exchange.final_out m c)).trans
          (Exchange.out_eq _ _ m (fun d => (hin d).1) (fun d => (hin d).2) c),
        (h.1 c (0 : Fin 3)).trans (Exchange.final_A m c), (h.1 c (1 : Fin 3)).trans (Exchange.final_B m c)⟩)
      (Exchange.run_main (F := Ideal) m g),
    (θ_run Cert.ReferenceIdeal.defs _ _).mono (fun _ h => h 0) (Cert.ReferenceIdeal.Value.run (F := Ideal) m' g')⟩

/-- The five claims. -/
theorem claim : Cert.Claim := ⟨Cert.Kernel.Gen.facts, Cert.KernelIdeal.Gen.facts, Cert.ReferenceIdeal.Gen.facts,
  frame_kernel, frame_ideal, frame_reference, trivial, same_product⟩

end Cert.Proof

end
